-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_latents_finite [hPre_latents_finite : Cert.Pre_latents_finite.Facts] (m : (ℓ : Loc Cert.KernelIdeal.nD Cert.KernelIdeal.τ Cert.KernelIdeal.sig) → Buf (Elt Ideal) ℓ) : Prop :=
  ∀ c : Dev Cert.KernelIdeal.nD,
    (Cert.Pre_latents_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_latents_finite [hPre_latents_finite : Cert.Pre_latents_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_latents_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_latents_finite [hKernelIdeal : Cert.KernelIdeal.Facts] [hPre_latents_finite : Cert.Pre_latents_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_latents_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_latents_finite [hReferenceIdeal : Cert.ReferenceIdeal.Facts] [hPre_latents_finite : Cert.Pre_latents_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_latents_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_latents_finite [hKernelIdeal : Cert.KernelIdeal.Facts] [hReferenceIdeal : Cert.ReferenceIdeal.Facts] [hPre_latents_finite : Cert.Pre_latents_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_latents_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_latents_finite : Cert.Pre_latents_finite.Facts),
    quiescent_Kernel (hKernel := hKernel)
    ∧ quiescent_KernelIdeal (hKernelIdeal := hKernelIdeal)
    ∧ quiescent_KernelIdeal_pre_latents_finite (hKernelIdeal := hKernelIdeal) (hPre_latents_finite := hPre_latents_finite)
    ∧ quiescent_ReferenceIdeal (hReferenceIdeal := hReferenceIdeal)
    ∧ quiescent_ReferenceIdeal_pre_latents_finite (hReferenceIdeal := hReferenceIdeal) (hPre_latents_finite := hPre_latents_finite)
    ∧ preserves_Kernel_KernelIdeal
    ∧ algebraic_KernelIdeal_ReferenceIdeal_pre_latents_finite (hKernelIdeal := hKernelIdeal) (hReferenceIdeal := hReferenceIdeal) (hPre_latents_finite := hPre_latents_finite)
-- ==== Pre_latents_finite.lean ====
abbrev S32x32x32x32 : Shape := ⟨4, ![32, 32, 32, 32]⟩
abbrev S1024x32 : Shape := ⟨2, ![1024, 32]⟩
abbrev S_ : Shape := ⟨0, ![]⟩

class Facts : Prop where
  bcast_S_S32x32x32x32 : S_.BroadcastsInDim S32x32x32x32 (![] : Fin 0 → Fin S32x32x32x32.rank)

variable [Facts]

def fn {F : FTy → Type} [FloatOps F] (main_arg0 : FVec F S32x32x32x32 .f32) (main_arg1 : FVec F S1024x32 .f32) : IVec S32x32x32x32 1 :=
  let main_v0 : FVec F S32x32x32x32 .f32 := Host.absf main_arg0
  let main_cst : FVec F S_ .f32 := constant S_ .f32 0x7F800000#32
  let main_v1 : FVec F S32x32x32x32 .f32 := broadcastInDim S32x32x32x32 ![] bcast_S_S32x32x32x32 main_cst
  let main_v2 : IVec S32x32x32x32 1 := cmpf .olt main_v0 main_v1
  main_v2
-- ==== Kernel.lean ====
abbrev S32x32x32x32 : Shape := ⟨4, ![32, 32, 32, 32]⟩
abbrev S1024x32 : Shape := ⟨2, ![1024, 32]⟩
abbrev S32x32x1024 : Shape := ⟨3, ![32, 32, 1024]⟩
abbrev S_ : Shape := ⟨0, ![]⟩
abbrev S1024 : Shape := ⟨1, ![1024]⟩
abbrev S1024x1 : Shape := ⟨2, ![1024, 1]⟩
abbrev S32x1024 : Shape := ⟨2, ![32, 1024]⟩
abbrev S1x1024 : Shape := ⟨2, ![1, 1024]⟩
abbrev S33x1024 : Shape := ⟨2, ![33, 1024]⟩
abbrev S1x1 : Shape := ⟨2, ![1, 1]⟩
abbrev S2x32x1024 : Shape := ⟨3, ![2, 32, 1024]⟩
abbrev S1x32x1024 : Shape := ⟨3, ![1, 32, 1024]⟩
abbrev S8x1024 : Shape := ⟨2, ![8, 1024]⟩
abbrev S4x1024 : Shape := ⟨2, ![4, 1024]⟩
abbrev S2x1024 : Shape := ⟨2, ![2, 1024]⟩
abbrev S1024x1024 : Shape := ⟨2, ![1024, 1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 19
  | .vmem => 8
  | .smem => 0
  | _ => 0

abbrev bufTy : (tb : Table) → Fin (tcTables nBuf tb) → BufTy
  | .hbm, ⟨0, _⟩ => ⟨S32x32x32x32, .f32⟩
  | .hbm, ⟨1, _⟩ => ⟨S1024x32, .f32⟩
  | .hbm, ⟨2, _⟩ => ⟨S32x32x1024, .f32⟩
  | .hbm, ⟨3, _⟩ => ⟨S1024x32, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S32x1024, .f32⟩
  | .hbm, ⟨8, _⟩ => ⟨S_, .f32⟩
  | .hbm, ⟨9, _⟩ => ⟨S1x1024, .f32⟩
  | .hbm, ⟨10, _⟩ => ⟨S33x1024, .f32⟩
  | .hbm, ⟨11, _⟩ => ⟨S32x32x1024, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S32x32x32x32, .f32⟩
  | .local _ .vmem, ⟨0, _⟩ => ⟨S2x32x1024, .f32⟩
  | .local _ .vmem, ⟨1, _⟩ => ⟨S2x32x1024, .f32⟩
  | .local _ .vmem, ⟨2, _⟩ => ⟨S1024x32, .f32⟩
  | .local _ .vmem, ⟨3, _⟩ => ⟨S33x1024, .f32⟩
  | .local _ .vmem, ⟨4, _⟩ => ⟨S1024x1, .f32⟩
  | .local _ .vmem, ⟨5, _⟩ => ⟨S2x32x1024, .f32⟩
  | .local _ .vmem, ⟨6, _⟩ => ⟨S2x32x1024, .f32⟩
  | .local _ .vmem, ⟨7, _⟩ => ⟨S1x1, .f32⟩
  | _, _ => ⟨S32x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S33x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S32x32x32x32 : Shape := ⟨4, ![32, 32, 32, 32]⟩
abbrev S1024x32 : Shape := ⟨2, ![1024, 32]⟩
abbrev S32768x32 : Shape := ⟨2, ![32768, 32]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S32x1024 : Shape := ⟨2, ![32, 1024]⟩
abbrev S1 : Shape := ⟨1, ![1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S32x32x32x32, .f32⟩
  | .hbm, ⟨1, _⟩ => ⟨S1024x32, .f32⟩
  | .hbm, ⟨2, _⟩ => ⟨S32x32x32x32, .f32⟩
  | .hbm, ⟨3, _⟩ => ⟨S32768x32, .f32⟩
  | .hbm, ⟨4, _⟩ => ⟨S32768x32, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S1024x32, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .i32⟩
  | .hbm, ⟨22, _⟩ => ⟨S_, .f32⟩
  | .hbm, ⟨23, _⟩ => ⟨S_, .i32⟩
  | .hbm, ⟨24, _⟩ => ⟨S32768, .f32⟩
  | .hbm, ⟨25, _⟩ => ⟨S32768, .i32⟩
  | .hbm, ⟨26, _⟩ => ⟨S_, .i32⟩
  | .hbm, ⟨27, _⟩ => ⟨S32768, .i32⟩
  | .hbm, ⟨28, _⟩ => ⟨S32768, .i1⟩
  | .hbm, ⟨29, _⟩ => ⟨S_, .i32⟩
  | .hbm, ⟨30, _⟩ => ⟨S32768, .i32⟩
  | .hbm, ⟨31, _⟩ => ⟨S32768, .i32⟩
  | .hbm, ⟨32, _⟩ => ⟨S32768, .i32⟩
  | .hbm, ⟨33, _⟩ => ⟨S32768x1, .i32⟩
  | .hbm, ⟨34, _⟩ => ⟨S1, .i32⟩
  | .hbm, ⟨35, _⟩ => ⟨S_, .i32⟩
  | .hbm, ⟨36, _⟩ => ⟨S32768x1, .i32⟩
  | .hbm, ⟨37, _⟩ => ⟨S32768x1, .i1⟩
  | .hbm, ⟨38, _⟩ => ⟨S1x1, .i32⟩
  | .hbm, ⟨39, _⟩ => ⟨S32768x1, .i32⟩
  | .hbm, ⟨40, _⟩ => ⟨S32768x1, .i1⟩
  | .hbm, ⟨41, _⟩ => ⟨S32768x1, .i1⟩
  | .hbm, ⟨42, _⟩ => ⟨S_, .i1⟩
  | .hbm, ⟨43, _⟩ => ⟨S32768, .i1⟩
  | .hbm, ⟨44, _⟩ => ⟨S32768x32, .f32⟩
  | .hbm, ⟨45, _⟩ => ⟨S32768x32, .i1⟩
  | .hbm, ⟨46, _⟩ => ⟨S_, .f32⟩
  | .hbm, ⟨47, _⟩ => ⟨S32768x32, .f32⟩
  | .hbm, ⟨48, _⟩ => ⟨S32768x32, .f32⟩
  | .hbm, ⟨49, _⟩ => ⟨S32x32x32x32, .f32⟩
  | .hbm, ⟨50, _⟩ => ⟨S32x32x32x32, .f32⟩
  | .hbm, ⟨51, _⟩ => ⟨S32x32x32x32, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S32x32x32x32, .f32⟩
  | .hbm, ⟨57, _⟩ => ⟨S32x32x32x32, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S32x32x32x32, .f32⟩
  | .hbm, ⟨66, _⟩ => ⟨S32x32x32x32, .f32⟩
  | .hbm, ⟨67, _⟩ => ⟨S32x32x32x32, .f32⟩
  | _, _ => ⟨S32x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_4 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_cst_6 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The condition under which the loss block is cleared: the grid coordinate is zero. -/
abbrev first (i : grid0.Coords) : Prop := (Scalar.cmpi .ne (Scalar.extui (Scalar.cmpi .eq (BitVec.ofNat 32 (i 0).val) 0#32)) 0#32) = 1#1

/-- A choice between two pure programs is the pure program of the chosen value. -/
theorem ite_pure {E : Type → Type _} {α : Type} (p : Prop) [Decidable p] (a b : α) :
    (if p then (pure a : Prog E α) else pure b) = pure (if p then a else b) := by
  split <;> rfl

/-- A continuation common to both branches may be taken after the choice. -/
theorem ite_then {E : Type → Type _} {α β : Type} (p : Prop) [Decidable p] (a b : Prog E α) (k : α → Prog E β) :
    (if p then a >>= k else b >>= k) = (if p then a else b) >>= k := by
  split <;> rfl

/-! ## What one point of the grid computes -/

/-- The test of the branch: some column of the one-hot matrix counts more than one. -/
abbrev tied (n : F .f32) : Prop :=
  Scalar.cmpi .ne (Scalar.extui (Scalar.cmpf .ogt n (Scalar.ofBits .f32 0x3F800000#32))) 0#32 = 1#1

/-- The rows chosen for one batch `lat`: with a tie, by the first minimiser's index; without, by the mask itself. -/
def rows (e : Vec F S1024x32 .f32) (ea : Vec F S33x1024 .f32) (e2 : Vec F S1024x1 .f32) (lat : Vec F S1x32x1024 .f32) : FVec F S32x1024 .f32 :=
  if tied (k0_pay3 (k0_pay8 ea) (k0_pay22 e (k0_pay9 e2) lat))
  then k0_pay4 (k0_pay8 ea) (k0_pay21 e (k0_pay9 e2) lat)
  else k0_pay2 (k0_pay8 ea) (k0_pay22 e (k0_pay9 e2) lat)

/-- The two batches of a block. -/
abbrev half0 (x : Vec F S2x32x1024 .f32) : Vec F S1x32x1024 .f32 :=
  View.ld x (Rect.unit (s := S2x32x1024) ![0, 0, 0] S1x32x1024.size inb_S2x32x1024_S1x32x1024_0_0_0)
abbrev half1 (x : Vec F S2x32x1024 .f32) : Vec F S1x32x1024 .f32 :=
  View.ld x (Rect.unit (s := S2x32x1024) ![1, 0, 0] S1x32x1024.size inb_S2x32x1024_S1x32x1024_1_0_0)

/-- The two stores of the result block, last first. -/
abbrev pieces (q0 q1 : FVec F S32x1024 .f32) : List (View.Piece (Elt F) S2x32x1024 .f32) :=
  [⟨Rect.unit (s := S2x32x1024) ![1, 0, 0] S1x32x1024.size inb_S2x32x1024_S1x32x1024_1_0_0, k0_pay5 q1⟩,
   ⟨Rect.unit (s := S2x32x1024) ![0, 0, 0] S1x32x1024.size inb_S2x32x1024_S1x32x1024_0_0_0, k0_pay19 q0⟩]

/-- The result block a point leaves. -/
def block (x0 : Vec F S2x32x1024 .f32) (x1 : Vec F S1024x32 .f32) (x2 : Vec F S33x1024 .f32) (x3 : Vec F S1024x1 .f32) : Vec F S2x32x1024 .f32 :=
  View.canon (pieces (rows x1 x2 x3 (half0 x0)) (rows x1 x2 x3 (half1 x0)))

/-- The loss cell a point leaves over what it found there. -/
def loss (x0 : Vec F S2x32x1024 .f32) (x1 : Vec F S1024x32 .f32) (x2 : Vec F S33x1024 .f32) (x3 : Vec F S1024x1 .f32) (acc : Vec F S1x1 .f32) : Vec F S1x1 .f32 :=
  k0_pay7 (k0_pay18 k0_pay10 (k0_pay20 (half0 x0)) (rows x1 x2 x3 (half0 x0))) (k0_pay20 (half1 x0)) (rows x1 x2 x3 (half1 x0)) acc

theorem hz2 : (![0, 0] : Fin 2 → Nat) = fun _ => 0 := funext fun a => by fin_cases a <;> rfl

theorem pieces_cover (q0 q1 : FVec F S32x1024 .f32) (y : S2x32x1024.Idx) : ∃ pc ∈ pieces q0 q1, y ∈ pc.1.set :=
  View.cover_of_tiledL (pieces q0 q1) S1x32x1024.size (by sl_kernel_rfl) y

set_option maxHeartbeats 1000000 in
/-- The body at the first point: the loss cell is cleared, then the two batches' shares are added. -/
theorem run_first (c : Dev nD) (i : grid0.Coords) (arg1 : Memref sig .tc .vmem S2x32x1024 .f32) (harg1 : arg1.IsWhole) (arg2 : Memref sig .tc .vmem S1024x32 .f32) (harg2 : arg2.IsWhole)
    (arg3 : Memref sig .tc .vmem S33x1024 .f32) (harg3 : arg3.IsWhole) (arg4 : Memref sig .tc .vmem S1024x1 .f32) (harg4 : arg4.IsWhole)
    (arg5 : Memref sig .tc .vmem S2x32x1024 .f32) (harg5 : arg5.IsWhole) (arg6 : Memref sig .tc .vmem S1x1 .f32) (harg6 : arg6.IsWhole) (hc0 : first i)
    (x0 : Vec F S2x32x1024 .f32) (x1 : Vec F S1024x32 .f32) (x2 : Vec F S33x1024 .f32) (x3 : Vec F S1024x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (block x0 x1 x2 x3) ∗ owns (c : Thread nD τ) arg6 fullShare (loss x0 x1 x2 x3 (k0_pay6 (F := F)))) -∗ K ⟨⟩))
      ⊢ wp frame (wpE (defs₀ (F := F)) Variants.none c none) E (cc0__vq_kernel i arg1 harg1 arg2 harg2 arg3 harg3 arg4 harg4 arg5 harg5 arg6 harg6) K := by
  simp only [cc0__vq_kernel_eq_skeleton]; unfold cc0__vq_kernel_skel
  simp only [k0_part1_eq_skeleton, k0_part2_eq_skeleton]
  unfold k0_part2_skel
  simp only [ite_then, ite_pure]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg1.eq_unread hf0; obtain rfl := harg2.eq_unread hf1; obtain rfl := harg3.eq_unread hf2; obtain rfl := harg4.eq_unread hf3
  skip
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    sl_unfold_words
    simp only [View.readAt_eq_ld, harg1.read_unread, harg2.read_unread, harg3.read_unread, harg4.read_unread,
      View.ld_unit_zero (S := S1024x32) hz2, View.ld_unit_zero (S := S33x1024) hz2, View.ld_unit_zero (S := S1024x1) hz2]
    exact View.read_writes_eq_canon _ _ _ (pieces_cover _ _)
  iexists _; isplitr; swap; · iexact H5
  ipureintro
  sl_unfold_words
  simp only [View.readAt_eq_ld, harg1.read_unread, harg2.read_unread, harg3.read_unread, harg4.read_unread, harg6.read_unread,
    View.ld_unit_zero (S := S1024x32) hz2, View.ld_unit_zero (S := S33x1024) hz2, View.ld_unit_zero (S := S1024x1) hz2, View.ld_unit_zero (S := S1x1) hz2]
  rw [View.read_writes_eq_canon _ _ _ (View.cover_of_tiledL _ S1x1.size (by sl_kernel_rfl)), View.canon_cons_unit_zero (S := S1x1) hz2]
  rw [View.readCov_unit_zero (S := S1x1) _ hz2]; rfl

set_option maxHeartbeats 1000000 in
/-- The body at a later point: the two batches' shares are added to what the loss cell holds. -/
theorem run_later (c : Dev nD) (i : grid0.Coords) (arg1 : Memref sig .tc .vmem S2x32x1024 .f32) (harg1 : arg1.IsWhole) (arg2 : Memref sig .tc .vmem S1024x32 .f32) (harg2 : arg2.IsWhole)
    (arg3 : Memref sig .tc .vmem S33x1024 .f32) (harg3 : arg3.IsWhole) (arg4 : Memref sig .tc .vmem S1024x1 .f32) (harg4 : arg4.IsWhole)
    (arg5 : Memref sig .tc .vmem S2x32x1024 .f32) (harg5 : arg5.IsWhole) (arg6 : Memref sig .tc .vmem S1x1 .f32) (harg6 : arg6.IsWhole) (hc0 : ¬first i)
    (x0 : Vec F S2x32x1024 .f32) (x1 : Vec F S1024x32 .f32) (x2 : Vec F S33x1024 .f32) (x3 : Vec F S1024x1 .f32) (acc : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare acc
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (block x0 x1 x2 x3) ∗ owns (c : Thread nD τ) arg6 fullShare (loss x0 x1 x2 x3 acc)) -∗ K ⟨⟩))
      ⊢ wp frame (wpE (defs₀ (F := F)) Variants.none c none) E (cc0__vq_kernel i arg1 harg1 arg2 harg2 arg3 harg3 arg4 harg4 arg5 harg5 arg6 harg6) K := by
  simp only [cc0__vq_kernel_eq_skeleton]; unfold cc0__vq_kernel_skel
  simp only [k0_part1_eq_skeleton, k0_part2_eq_skeleton]
  unfold k0_part2_skel
  simp only [ite_then, ite_pure]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg1.eq_unread hf0; obtain rfl := harg2.eq_unread hf1; obtain rfl := harg3.eq_unread hf2; obtain rfl := harg4.eq_unread hf3
  obtain rfl := harg6.eq_unread hf5
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    sl_unfold_words
    simp only [View.readAt_eq_ld, harg1.read_unread, harg2.read_unread, harg3.read_unread, harg4.read_unread,
      View.ld_unit_zero (S := S1024x32) hz2, View.ld_unit_zero (S := S33x1024) hz2, View.ld_unit_zero (S := S1024x1) hz2]
    exact View.read_writes_eq_canon _ _ _ (pieces_cover _ _)
  iexists _; isplitr; swap; · iexact H5
  ipureintro
  sl_unfold_words
  simp only [View.readAt_eq_ld, harg1.read_unread, harg2.read_unread, harg3.read_unread, harg4.read_unread, harg6.read_unread,
    View.ld_unit_zero (S := S1024x32) hz2, View.ld_unit_zero (S := S33x1024) hz2, View.ld_unit_zero (S := S1024x1) hz2, View.ld_unit_zero (S := S1x1) hz2]
  rw [View.read_writes_eq_canon _ _ _ (View.cover_of_tiledL _ S1x1.size (by sl_kernel_rfl)), View.canon_cons_unit_zero (S := S1x1) hz2]
  rfl

end Cert.KernelIdeal.Body

end
-- ==== Proof.Run.lean ====
module

public import proofs.«01_k».proof.Proof.Body
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Only the first point has coordinate zero. -/
theorem first_iff : ∀ t : Fin cfg0.N, first (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [first, e0]
    word_cmp
   : ∀ t : Fin grid0.N, first (grid0.coords t) ↔ t.val % 16 = 0)

/-- The result block of point `t`. -/
abbrev blockAt (c : Dev nD) (t : Fin cfg0.N) : Vec F S2x32x1024 .f32 :=
  block (iblk m c 0 t) (iblk m c 1 t) (iblk m c 2 t) (iblk m c 3 t)

/-- The loss cell after point `n`: cleared first, then one point's share after another. -/
def lossAt (c : Dev nD) : (n : ℕ) → n < cfg0.N → Vec F S1x1 .f32
  | 0, h => loss (iblk m c 0 ⟨0, h⟩) (iblk m c 1 ⟨0, h⟩) (iblk m c 2 ⟨0, h⟩) (iblk m c 3 ⟨0, h⟩) (k0_pay6 (F := F))
  | n + 1, h => loss (iblk m c 0 ⟨n + 1, h⟩) (iblk m c 1 ⟨n + 1, h⟩) (iblk m c 2 ⟨n + 1, h⟩) (iblk m c 3 ⟨n + 1, h⟩)
      (lossAt c n (Nat.lt_of_succ_lt h))

theorem lossAt_first (c : Dev nD) (t : Fin cfg0.N) (h0 : t.val % 16 = 0) :
    lossAt m c t.val t.isLt = loss (iblk m c 0 t) (iblk m c 1 t) (iblk m c 2 t) (iblk m c 3 t) (k0_pay6 (F := F)) := by
  obtain ⟨n, hn⟩ := t
  have hN : n < 16 := lt_of_lt_of_eq hn (show cfg0.N = 16 from N_0)
  cases n with
  | zero => rfl
  | succ n => exfalso; dsimp only at h0; omega

theorem lossAt_later (c : Dev nD) (t : Fin cfg0.N) (h0 : ¬t.val % 16 = 0) :
    lossAt m c t.val t.isLt = loss (iblk m c 0 t) (iblk m c 1 t) (iblk m c 2 t) (iblk m c 3 t)
      (lossAt m c (t.val - 1) (Nat.lt_of_le_of_lt (Nat.sub_le _ _) t.isLt)) := by
  obtain ⟨n, hn⟩ := t
  cases n with
  | zero => exact absurd (Nat.zero_mod _) h0
  | succ n => rfl

/-- What each window holds: the inputs their blocks, the outputs what the body left there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockAt m c t
    | ⟨5, _⟩ => lossAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = blockAt m c t := by dsimp only [dats]
theorem after_5 (c : Dev nD) (t : Fin cfg0.N) : (dats m 0 c).after 5 t = lossAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- At a later point the loss cell still holds what the point before left. -/
theorem before_5 (c : Dev nD) (t : Fin cfg0.N) (h0 : ¬t.val % 16 = 0) (d) :
    (dats m 0 c).before 5 t d = lossAt m c (t.val - 1) (Nat.lt_of_le_of_lt (Nat.sub_le _ _) t.isLt) := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 800000 in
/-- The body at any point, from what the windows hold to what they are left with. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5]
  by_cases h0 : t.val % 16 = 0
  · rw [lossAt_first m c t h0]
    iintro ⟨HΦ, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ ((first_iff t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [lossAt_later m c t h0]
    simp only [before_5 m c t h0]
    iintro ⟨HΦ, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ (fun h => h0 ((first_iff t).mp h)) (iblk m c 0 t) (iblk m c 1 t) (iblk m c 2 t) (iblk m c 3 t) _ Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every run ends with each array as the points left it, the buffers outside the region as the later lines leave
    them, and every semaphore at zero. -/
theorem run_quiet : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ)

/-- The arguments end as they began, and every semaphore at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiet m ρ))

end Cert.KernelIdeal.Run

end
-- ==== Proof.RefRun.lean ====
module

public import proofs.«01_k».proof.Proof.Gen.ReferenceIdeal
public import proofs.«01_k».proof.Defs
public import Idealize.ShloMosaic.Lib.StableHlo.Run
public import Idealize.ShloMosaic.Lib.Quiescent
public import Idealize.ShloMosaic.Lib.Claim

/-!
  The reference's run. Its main function is a straight line of host operations, so every buffer ends at
  the fold of those operations over the buffers' launch contents; the two results are read off that fold.
-/

@[expose] public section

set_option maxRecDepth 16384

noncomputable section

namespace Cert.ReferenceIdeal.Line

open Idealize.ShloMosaic Idealize.ShloMosaic.TcCoe Idealize.ShloMosaic.StableHlo Idealize.SL.Sem
open Cert.ReferenceIdeal.Gen

variable {F : FTy → Type} [FloatOps F]

/-- The channels-last latents. -/
def last (x : FVec F S32x32x32x32 .f32) : FVec F S32x32x32x32 .f32 :=
  transpose S32x32x32x32 [0, 2, 3, 1] x transposes_S32x32x32x32_S32x32x32x32_0_2_3_1

/-- The latents as 32768 vectors of 32 channels. -/
def vectors (x : FVec F S32x32x32x32 .f32) : FVec F S32768x32 .f32 :=
  shapeCast S32768x32 (last x) shapeCasts_S32x32x32x32_S32768x32

/-- The squared lengths along the channels. -/
def norms (v : FVec F S32768x32 .f32) : FVec F S32768 .f32 :=
  Host.reduceAdd (mulf v v) (constant S_ .f32 0x00000000#32) reducesTo_S32768x32_S32768_d1 h_S_

/-- The squared lengths of the codebook's rows. -/
def rowNorms (e : FVec F S1024x32 .f32) : FVec F S1024 .f32 :=
  Host.reduceAdd (mulf e e) (constant S_ .f32 0x00000000#32) reducesTo_S1024x32_S1024_d1 h_S_

/-- The inner products of every latent vector with every row. -/
def inner (v : FVec F S32768x32 .f32) (e : FVec F S1024x32 .f32) : FVec F S32768x1024 .f32 :=
  Host.dotGeneral dot_S32768x32_S32x1024_S32768x1024_1_0_0_1_n_n none v
    (transpose S32x1024 [1, 0] e transposes_S1024x32_S32x1024_1_0)

/-- The squared distances, expanded. -/
def dist (v : FVec F S32768x32 .f32) (e : FVec F S1024x32 .f32) : FVec F S32768x1024 .f32 :=
  subf
    (addf
      (broadcastInDim S32768x1024 ![0, 1] bcast_S32768x1_S32768x1024_0_1
        (broadcastInDim S32768x1 ![0] bcast_S32768_S32768x1_0 (norms v)))
      (broadcastInDim S32768x1024 ![0, 1] bcast_S1x1024_S32768x1024_0_1
        (broadcastInDim S1x1024 ![1] bcast_S1024_S1x1024_1 (rowNorms e))))
    (mulf (broadcastInDim S32768x1024 ![] bcast_S_S32768x1024 (constant S_ .f32 0x40000000#32)) (inner v e))

/-- The second members of an array of pairs. -/
def seconds {α : Type} (p : S32768.Idx → α × BitVec 32) : IVec S32768 32 := fun j => (p j).2

/-- The index of the least entry of each row. -/
def best (d : FVec F S32768x1024 .f32) : IVec S32768 32 :=
  seconds (Host.argReduce reducer_argmin_f32_i32 d (iotaInDim S32768x1024 32 1) (constant S_ .f32 0x7F800000#32)
    (constantI S_ 32 0#32) reducesTo_S32768x1024_S32768_d1 h_S_)

/-- The indices to read at, a negative one counted from the end. -/
def wrapped (i : IVec S32768 32) : IVec S32768x1 32 :=
  broadcastInDim S32768x1 ![0] bcast_S32768_S32768x1_0
    (select (cmpi .slt i (broadcastInDim S32768 ![] bcast_S_S32768 (constantI S_ 32 0#32)))
      (addi i (broadcastInDim S32768 ![] bcast_S_S32768 (constantI S_ 32 1024#32))) i)

/-- Whether each index is in range. -/
def within (i : IVec S32768x1 32) : IVec S32768 1 :=
  Host.reduce IntOp.andi
    (andi
      (cmpi .sge i (broadcastInDim S32768x1 ![] bcast_S_S32768x1 (constantI S_ 32 0#32)))
      (cmpi .sle i (broadcastInDim S32768x1 ![0, 1] bcast_S1x1_S32768x1_0_1
        (broadcastInDim S1x1 ![1] bcast_S1_S1x1_1 (constantI S1 32 1023#32)))))
    (constantI S_ 1 1#1) reducesTo_S32768x1_S32768_d1 h_S_

/-- The codebook's rows at the indices. -/
def taken (e : FVec F S1024x32 .f32) (i : IVec S32768x1 32) : FVec F S32768x32 .f32 :=
  select (broadcastInDim S32768x32 ![0] bcast_S32768_S32768x32_0 (within i))
    (Host.gather gather_S1024x32_S32768x1_S32768x32_1_0_n_n_0_1_132 e i)
    (broadcastInDim S32768x32 ![] bcast_S_S32768x32 (constant S_ .f32 0x7FC00000#32))

/-- The chosen rows in the latents' channels-last shape. -/
def chosen (x : FVec F S32x32x32x32 .f32) (e : FVec F S1024x32 .f32) : FVec F S32x32x32x32 .f32 :=
  shapeCast S32x32x32x32 (taken e (wrapped (best (dist (vectors x) e)))) shapeCasts_S32768x32_S32x32x32x32

/-- The mean squared difference. -/
def mean (x q : FVec F S32x32x32x32 .f32) : FVec F S_ .f32 :=
  Host.divf
    (Host.reduceAdd (mulf (subf x q) (subf x q)) (constant S_ .f32 0x00000000#32) reducesTo_S32x32x32x32_S_d0_1_2_3 h_S_)
    (constant S_ .f32 0x49800000#32)

/-- The rows `q` by way of the latents, channels first again. -/
def blend (x q : FVec F S32x32x32x32 .f32) : FVec F S32x32x32x32 .f32 :=
  transpose S32x32x32x32 [0, 3, 1, 2] (addf x (subf q x)) transposes_S32x32x32x32_S32x32x32x32_0_3_1_2

/-- The loss: the mean and a quarter of it. -/
def total (x q : FVec F S32x32x32x32 .f32) : FVec F S_ .f32 :=
  addf (mean x q) (mulf (constant S_ .f32 0x3E800000#32) (mean x q))

/-- The first result. -/
def outRef (x : FVec F S32x32x32x32 .f32) (e : FVec F S1024x32 .f32) : FVec F S32x32x32x32 .f32 :=
  blend (last x) (chosen x e)

/-- The second result: the loss. -/
def lossRef (x : FVec F S32x32x32x32 .f32) (e : FVec F S1024x32 .f32) : FVec F S_ .f32 :=
  total (last x) (chosen x e)

/-- The operations of the distances. -/
abbrev opsDist : List (HloOp τ sig (Elt F)) :=
  [ unary main_arg0 main_v0 ((transpose S32x32x32x32 [0, 2, 3, 1] · transposes_S32x32x32x32_S32x32x32x32_0_2_3_1)),
    reshape main_v0 main_v1 (rfl : (.f32 : EltTy) = .f32) shapeCasts_S32x32x32x32_S32768x32,
    binary main_v1 main_v1 main_v2 (mulf),
    nullary main_cst (constant S_ .f32 0x00000000#32),
    binary main_v2 main_cst main_v3 ((fun x v => Host.reduceAdd x v reducesTo_S32768x32_S32768_d1 h_S_)),
    unary main_v3 main_v4 (broadcastInDim S32768x1 ![0] bcast_S32768_S32768x1_0),
    binary main_arg1 main_arg1 main_v5 (mulf),
    nullary main_cst_0 (constant S_ .f32 0x00000000#32),
    binary main_v5 main_cst_0 main_v6 ((fun x v => Host.reduceAdd x v reducesTo_S1024x32_S1024_d1 h_S_)),
    unary main_v6 main_v7 (broadcastInDim S1x1024 ![1] bcast_S1024_S1x1024_1),
    unary main_v4 main_v8 (broadcastInDim S32768x1024 ![0, 1] bcast_S32768x1_S32768x1024_0_1),
    unary main_v7 main_v9 (broadcastInDim S32768x1024 ![0, 1] bcast_S1x1024_S32768x1024_0_1),
    binary main_v8 main_v9 main_v10 (addf),
    unary main_arg1 main_v11 ((transpose S32x1024 [1, 0] · transposes_S1024x32_S32x1024_1_0)),
    binary main_v1 main_v11 main_v12 ((fun l r => Host.dotGeneral dot_S32768x32_S32x1024_S32768x1024_1_0_0_1_n_n none l r)),
    nullary main_cst_1 (constant S_ .f32 0x40000000#32),
    unary main_cst_1 main_v13 (broadcastInDim S32768x1024 ![] bcast_S_S32768x1024),
    binary main_v13 main_v12 main_v14 (mulf),
    binary main_v10 main_v14 main_v15 (subf) ]

/-- The operations of the least entries. -/
abbrev opsBest : List (HloOp τ sig (Elt F)) :=
  [ TRef.nullary main_call0.v0 (iotaInDim S32768x1024 32 1),
    TRef.nullary main_call0.cst (constant S_ .f32 0x7F800000#32),
    TRef.nullary main_call0.c (constantI S_ 32 0#32),
    TRef.quaternary (TRef.of main_v15) main_call0.v0 main_call0.cst main_call0.c main_call0.v1_0 (fun x y u v j => (Host.argReduce reducer_argmin_f32_i32 x y u v reducesTo_S32768x1024_S32768_d1 h_S_ j).1),
    TRef.quaternary (TRef.of main_v15) main_call0.v0 main_call0.cst main_call0.c main_call0.v1_1 (fun x y u v j => (Host.argReduce reducer_argmin_f32_i32 x y u v reducesTo_S32768x1024_S32768_d1 h_S_ j).2) ]

/-- The operations of the rows read. -/
abbrev opsTake : List (HloOp τ sig (Elt F)) :=
  [ TRef.nullary main_call1.c (constantI S_ 32 0#32),
    TRef.unary main_call1.c main_call1.v0 (broadcastInDim S32768 ![] bcast_S_S32768),
    TRef.binary (TRef.of main_v16) main_call1.v0 main_call1.v1 (cmpi .slt),
    TRef.nullary main_call1.c_0 (constantI S_ 32 1024#32),
    TRef.unary main_call1.c_0 main_call1.v2 (broadcastInDim S32768 ![] bcast_S_S32768),
    TRef.binary (TRef.of main_v16) main_call1.v2 main_call1.v3 addi,
    TRef.ternary main_call1.v1 main_call1.v3 (TRef.of main_v16) main_call1.call0.v0 select,
    TRef.unary main_call1.call0.v0 main_call1.v5 (broadcastInDim S32768x1 ![0] bcast_S32768_S32768x1_0),
    TRef.nullary main_call1.c_1 (constantI S1 32 1023#32),
    TRef.nullary main_call1.c_2 (constantI S_ 32 0#32),
    TRef.unary main_call1.c_2 main_call1.v6 (broadcastInDim S32768x1 ![] bcast_S_S32768x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S32768x1 ![0, 1] bcast_S1x1_S32768x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S32768x1_S32768_d1 h_S_),
    TRef.binary (TRef.of main_arg1) main_call1.v5 main_call1.v13 (fun x i => Host.gather gather_S1024x32_S32768x1_S32768x32_1_0_n_n_0_1_132 x i),
    TRef.unary main_call1.v12 main_call1.v14 (broadcastInDim S32768x32 ![0] bcast_S32768_S32768x32_0),
    TRef.nullary main_call1.cst (constant S_ .f32 0x7FC00000#32),
    TRef.unary main_call1.cst main_call1.v15 (broadcastInDim S32768x32 ![] bcast_S_S32768x32),
    TRef.ternary main_call1.v14 main_call1.v13 main_call1.v15 main_call1.v16 select ]

/-- The operations of the two results. -/
abbrev opsOut : List (HloOp τ sig (Elt F)) :=
  [ reshape main_v17 main_v18 (rfl : (.f32 : EltTy) = .f32) shapeCasts_S32768x32_S32x32x32x32,
    binary main_v0 main_v18 main_v19 (subf),
    binary main_v19 main_v19 main_v20 (mulf),
    nullary main_cst_2 (constant S_ .f32 0x00000000#32),
    binary main_v20 main_cst_2 main_v21 ((fun x v => Host.reduceAdd x v reducesTo_S32x32x32x32_S_d0_1_2_3 h_S_)),
    nullary main_cst_3 (constant S_ .f32 0x49800000#32),
    binary main_v21 main_cst_3 main_v22 (Host.divf),
    binary main_v0 main_v18 main_v23 (subf),
    binary main_v23 main_v23 main_v24 (mulf),
    nullary main_cst_4 (constant S_ .f32 0x00000000#32),
    binary main_v24 main_cst_4 main_v25 ((fun x v => Host.reduceAdd x v reducesTo_S32x32x32x32_S_d0_1_2_3 h_S_)),
    nullary main_cst_5 (constant S_ .f32 0x49800000#32),
    binary main_v25 main_cst_5 main_v26 (Host.divf),
    nullary main_cst_6 (constant S_ .f32 0x3E800000#32),
    binary main_cst_6 main_v26 main_v27 (mulf),
    binary main_v22 main_v27 main_v28 (addf),
    binary main_v18 main_v0 main_v29 (subf),
    binary main_v0 main_v29 main_v30 (addf),
    unary main_v30 main_v31 ((transpose S32x32x32x32 [0, 3, 1, 2] · transposes_S32x32x32x32_S32x32x32x32_0_3_1_2)) ]

/-- The operations of the main function, in order. -/
abbrev ops : List (HloOp τ sig (Elt F)) := opsDist ++ (opsBest ++ (opsTake ++ opsOut))

/-- The main function is that straight line. -/
theorem main_eq (c : Dev nD) : main (F := F) c = seq ops := rfl

theorem ops_sub : (ops : List (HloOp τ sig (Elt F))).Forall fun op => op.bufs ⊆ tcRefs τ sig :=
  ⟨unary_bufs_sub .., reshape_bufs_sub .., binary_bufs_sub .., nullary_bufs_sub .., binary_bufs_sub ..,
    unary_bufs_sub .., binary_bufs_sub .., nullary_bufs_sub .., binary_bufs_sub .., unary_bufs_sub ..,
    unary_bufs_sub .., unary_bufs_sub .., binary_bufs_sub .., unary_bufs_sub .., binary_bufs_sub ..,
    nullary_bufs_sub .., unary_bufs_sub .., binary_bufs_sub .., binary_bufs_sub .., nullary_bufs_sub ..,
    nullary_bufs_sub .., nullary_bufs_sub .., quaternary_bufs_sub .., quaternary_bufs_sub .., nullary_bufs_sub
    .., unary_bufs_sub .., binary_bufs_sub .., nullary_bufs_sub .., unary_bufs_sub .., binary_bufs_sub ..,
    ternary_bufs_sub .., unary_bufs_sub .., nullary_bufs_sub .., nullary_bufs_sub .., unary_bufs_sub ..,
    binary_bufs_sub .., unary_bufs_sub .., unary_bufs_sub .., binary_bufs_sub .., binary_bufs_sub ..,
    nullary_bufs_sub .., binary_bufs_sub .., binary_bufs_sub .., unary_bufs_sub .., nullary_bufs_sub ..,
    unary_bufs_sub .., ternary_bufs_sub .., reshape_bufs_sub .., binary_bufs_sub .., binary_bufs_sub ..,
    nullary_bufs_sub .., binary_bufs_sub .., nullary_bufs_sub .., binary_bufs_sub .., binary_bufs_sub ..,
    binary_bufs_sub .., nullary_bufs_sub .., binary_bufs_sub .., nullary_bufs_sub .., binary_bufs_sub ..,
    nullary_bufs_sub .., binary_bufs_sub .., binary_bufs_sub .., binary_bufs_sub .., binary_bufs_sub ..,
    unary_bufs_sub ..⟩

theorem dist_v15 (V : Valuation τ sig (Elt F)) : after opsDist V (main_v15 : DevRef τ sig)
    = dist (vectors (V (main_arg0 : DevRef τ sig))) (V (main_arg1 : DevRef τ sig)) := by
  after_results
  rfl
theorem dist_v0 (V : Valuation τ sig (Elt F)) : after opsDist V (main_v0 : DevRef τ sig) = last (V (main_arg0 : DevRef τ sig)) := by
  after_results
  rfl
theorem dist_arg0 (V : Valuation τ sig (Elt F)) : after opsDist V (main_arg0 : DevRef τ sig) = V (main_arg0 : DevRef τ sig) := by
  after_results
theorem dist_arg1 (V : Valuation τ sig (Elt F)) : after opsDist V (main_arg1 : DevRef τ sig) = V (main_arg1 : DevRef τ sig) := by
  after_results

theorem best_v16 (V : Valuation τ sig (Elt F)) : after opsBest V (main_v16 : DevRef τ sig) = best (V (main_v15 : DevRef τ sig)) := by
  after_results
  simp only [TRef.ofBuf_toBuf]
  simp -implicitDefEqProofs only [TRef.toBuf, TRef.ofBuf, cast_cast, cast_eq]
  rfl
theorem best_v0 (V : Valuation τ sig (Elt F)) : after opsBest V (main_v0 : DevRef τ sig) = V (main_v0 : DevRef τ sig) := by
  after_results
theorem best_arg0 (V : Valuation τ sig (Elt F)) : after opsBest V (main_arg0 : DevRef τ sig) = V (main_arg0 : DevRef τ sig) := by
  after_results
theorem best_arg1 (V : Valuation τ sig (Elt F)) : after opsBest V (main_arg1 : DevRef τ sig) = V (main_arg1 : DevRef τ sig) := by
  after_results

theorem take_v17 (V : Valuation τ sig (Elt F)) : after opsTake V (main_v17 : DevRef τ sig)
    = taken (V (main_arg1 : DevRef τ sig)) (wrapped (V (main_v16 : DevRef τ sig))) := by
  after_results
  simp only [TRef.ofBuf_toBuf]
  simp -implicitDefEqProofs only [TRef.toBuf, TRef.ofBuf, cast_cast, cast_eq]
  rfl
theorem take_v0 (V : Valuation τ sig (Elt F)) : after opsTake V (main_v0 : DevRef τ sig) = V (main_v0 : DevRef τ sig) := by
  after_results
theorem take_arg0 (V : Valuation τ sig (Elt F)) : after opsTake V (main_arg0 : DevRef τ sig) = V (main_arg0 : DevRef τ sig) := by
  after_results
theorem take_arg1 (V : Valuation τ sig (Elt F)) : after opsTake V (main_arg1 : DevRef τ sig) = V (main_arg1 : DevRef τ sig) := by
  after_results

theorem out_v31 (V : Valuation τ sig (Elt F)) : after opsOut V (main_v31 : DevRef τ sig)
    = blend (V (main_v0 : DevRef τ sig)) (shapeCast S32x32x32x32 (V (main_v17 : DevRef τ sig)) shapeCasts_S32768x32_S32x32x32x32) := by
  after_results
  rfl
theorem out_v28 (V : Valuation τ sig (Elt F)) : after opsOut V (main_v28 : DevRef τ sig)
    = total (V (main_v0 : DevRef τ sig)) (shapeCast S32x32x32x32 (V (main_v17 : DevRef τ sig)) shapeCasts_S32768x32_S32x32x32x32) := by
  after_results
  rfl
theorem out_arg0 (V : Valuation τ sig (Elt F)) : after opsOut V (main_arg0 : DevRef τ sig) = V (main_arg0 : DevRef τ sig) := by
  after_results
theorem out_arg1 (V : Valuation τ sig (Elt F)) : after opsOut V (main_arg1 : DevRef τ sig) = V (main_arg1 : DevRef τ sig) := by
  after_results

/-- The fold of the operations at the first result's buffer. -/
theorem out_eq (V : Valuation τ sig (Elt F)) :
    after ops V (main_v31 : DevRef τ sig) = outRef (V (main_arg0 : DevRef τ sig)) (V (main_arg1 : DevRef τ sig)) := by
  simp only [ops, after_append]
  rw [out_v31, take_v17, take_v0, best_v16, best_v0, best_arg1, dist_v15, dist_v0, dist_arg1]
  rfl

/-- The fold of the operations at the loss's buffer. -/
theorem loss_eq (V : Valuation τ sig (Elt F)) :
    after ops V (main_v28 : DevRef τ sig) = lossRef (V (main_arg0 : DevRef τ sig)) (V (main_arg1 : DevRef τ sig)) := by
  simp only [ops, after_append]
  rw [out_v28, take_v17, take_v0, best_v16, best_v0, best_arg1, dist_v15, dist_v0, dist_arg1]
  rfl

theorem arg0_eq (V : Valuation τ sig (Elt F)) :
    after ops V (main_arg0 : DevRef τ sig) = V (main_arg0 : DevRef τ sig) := by
  simp only [ops, after_append]
  rw [out_arg0, take_arg0, best_arg0, dist_arg0]

theorem arg1_eq (V : Valuation τ sig (Elt F)) :
    after ops V (main_arg1 : DevRef τ sig) = V (main_arg1 : DevRef τ sig) := by
  simp only [ops, after_append]
  rw [out_arg1, take_arg1, best_arg1, dist_arg1]

/-- Nothing is scoped, and there is no semaphore. -/
theorem no_scoped_refs : (Finset.univ.filter fun b : Ref sig .tc => b.isScoped) = ∅ := by decide
theorem no_scoped_sems : (Finset.univ.filter fun sm : SemLoc sig => sm.isScoped .tc) = ∅ := by decide

/-- The run: it ends, the results hold their closed terms, the arguments what they held, no counter is up. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v31)
            = outRef (m ((c.tc : Thread nD τ).loc main_arg0)) (m ((c.tc : Thread nD τ).loc main_arg1))
        ∧ r.2.mem ((c.tc : Thread nD τ).loc main_v28)
            = lossRef (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono
    (fun r h => ⟨fun c => ⟨(h c main_v31).trans (out_eq _), (h c main_v28).trans (loss_eq _),
        (h c main_arg0).trans (arg0_eq _), (h c main_arg1).trans (arg1_eq _)⟩,
      sem_eq_zero_of_no_sems (by decide) _⟩)
    (run_seq no_scoped_refs no_scoped_sems defs main (fun _ => ops) main_eq (fun _ => ops_sub) m ρ)

end Cert.ReferenceIdeal.Line

end
-- ==== Proof.Least.lean ====
module

public import Idealize.ShloMosaic.Lib.Pointwise
public import Idealize.ShloMosaic.Lib.IdealHost

/-!
  The first position of a least entry among 1024 extended reals, and the ways the two programs find it or
  use it: a fold of the minimum, a fold of the signed minimum over the positions that attain it, a fold over
  pairs of value and position, and sums against the 0/1 indicator of the positions that attain it.
-/

@[expose] public section

set_option maxRecDepth 16384

noncomputable section

namespace Cert.Least

open Idealize.ShloMosaic

/-! ## The first least position -/

theorem exists_first (d : Fin 1024 → EReal) : ∃ n, ∀ k, d n < d k ∨ d n = d k ∧ n ≤ k := by
  obtain ⟨n, hn⟩ := Finite.exists_min fun k : Fin 1024 => toLex (d k, k)
  exact ⟨n, fun k => Prod.Lex.toLex_le_toLex.mp (hn k)⟩

/-- The first position of a least entry. -/
def first (d : Fin 1024 → EReal) : Fin 1024 := (exists_first d).choose

theorem first_spec (d : Fin 1024 → EReal) (k : Fin 1024) : d (first d) < d k ∨ d (first d) = d k ∧ first d ≤ k :=
  (exists_first d).choose_spec k

theorem first_le (d : Fin 1024 → EReal) (k : Fin 1024) : d (first d) ≤ d k :=
  (first_spec d k).elim le_of_lt fun h => h.1.le

theorem first_le_of_eq (d : Fin 1024 → EReal) (k : Fin 1024) (h : d k = d (first d)) : first d ≤ k :=
  (first_spec d k).elim (fun h' => absurd h (ne_of_gt h')) fun h' => h'.2

/-- A position no later than any least one, and least, is the first. -/
theorem eq_first (d : Fin 1024 → EReal) (n : Fin 1024) (h : ∀ k, d n < d k ∨ d n = d k ∧ n ≤ k) : n = first d := by
  have e : d n = d (first d) :=
    le_antisymm ((h (first d)).elim le_of_lt fun h' => h'.1.le) (first_le d n)
  refine le_antisymm ?_ (first_le_of_eq d n e)
  exact (h (first d)).elim (fun h' => absurd e (ne_of_lt h')) fun h' => h'.2

/-- The fold of the minimum from the top is the least entry. -/
theorem fold_min (d : Fin 1024 → EReal) : Finset.fold min ⊤ d Finset.univ = d (first d) :=
  le_antisymm ((Finset.fold_min_le _).mpr (Or.inr ⟨first d, Finset.mem_univ _, le_rfl⟩))
    ((Finset.le_fold_min _).mpr ⟨le_top, fun k _ => first_le d k⟩)

/-! ## The positions as words -/

theorem word_inj (a b : Fin 1024) (h : BitVec.ofNat 32 a.val = BitVec.ofNat 32 b.val) : a = b := by
  have := congrArg BitVec.toNat h
  simp only [BitVec.toNat_ofNat] at this
  apply Fin.ext
  have := a.isLt
  have := b.isLt
  omega

theorem word_toInt (a : Fin 1024) : (BitVec.ofNat 32 a.val).toInt = (a.val : ℤ) := by
  have := a.isLt
  rw [BitVec.toInt_eq_toNat_of_lt (by simp only [BitVec.toNat_ofNat]; omega)]
  simp only [BitVec.toNat_ofNat]
  omega

theorem toInt_minsi (x y : BitVec 32) : (IntOp.minsi x y).toInt = min x.toInt y.toInt := by
  unfold IntOp.minsi
  by_cases h : x.slt y
  · rw [if_pos h, min_eq_left (le_of_lt (BitVec.slt_iff_toInt_lt.mp h))]
  · rw [if_neg h, min_eq_right (not_lt.mp fun h' => h (BitVec.slt_iff_toInt_lt.mpr h'))]

/-- The signed minimum of the positions where the mask is set, the others reading 1024. -/
theorem fold_minsi (d : Fin 1024 → EReal) (msk : Fin 1024 → BitVec 1) (h : ∀ k, msk k = BitVec.ofBool (decide (d k = d (first d)))) :
    Finset.fold IntOp.minsi 2147483647#32 (fun k : Fin 1024 => Scalar.select (msk k) (BitVec.ofNat 32 k.val) 1024#32) Finset.univ
      = BitVec.ofNat 32 (first d).val := by
  apply BitVec.eq_of_toInt_eq
  have hh := Finset.fold_hom (op := IntOp.minsi) (op' := (min : ℤ → ℤ → ℤ)) (m := BitVec.toInt)
    (s := Finset.univ) (b := 2147483647#32) (f := fun k : Fin 1024 => Scalar.select (msk k) (BitVec.ofNat 32 k.val) 1024#32) toInt_minsi
  rw [← hh, word_toInt]
  have at_first : msk (first d) = 1#1 := by rw [h]; simp
  refine le_antisymm ((Finset.fold_min_le _).mpr (Or.inr ⟨first d, Finset.mem_univ _, ?_⟩)) ((Finset.le_fold_min _).mpr ⟨?_, fun k _ => ?_⟩)
  · show (Scalar.select (msk (first d)) (BitVec.ofNat 32 (first d).val) 1024#32).toInt ≤ ((first d).val : ℤ)
    rw [at_first]
    exact (word_toInt _).le
  · have := (first d).isLt
    show ((first d).val : ℤ) ≤ 2147483647
    omega
  · have hlt := (first d).isLt
    rw [h k]
    by_cases e : d k = d (first d)
    · have hle := first_le_of_eq d k e
      simp only [e, decide_true]
      show ((first d).val : ℤ) ≤ (BitVec.ofNat 32 k.val).toInt
      rw [word_toInt]
      exact_mod_cast hle
    · simp only [e, decide_false]
      show ((first d).val : ℤ) ≤ 1024
      omega

/-! ## The fold over pairs -/

/-- The lesser of two pairs, by value and then by position. -/
def lesser (a b : EReal × BitVec 32) : EReal × BitVec 32 :=
  if a.1 < b.1 ∨ a.1 = b.1 ∧ a.2.toInt < b.2.toInt then a else b

/-- A pair no greater than another, by value and then by position. -/
def below (a b : EReal × BitVec 32) : Prop := a.1 < b.1 ∨ a.1 = b.1 ∧ a.2.toInt ≤ b.2.toInt

theorem below_refl (a : EReal × BitVec 32) : below a a := Or.inr ⟨rfl, le_rfl⟩

theorem below_trans {a b c : EReal × BitVec 32} (h : below a b) (h' : below b c) : below a c := by
  rcases h with h | ⟨h, g⟩ <;> rcases h' with h' | ⟨h', g'⟩
  · exact Or.inl (h.trans h')
  · exact Or.inl (h' ▸ h)
  · exact Or.inl (h ▸ h')
  · exact Or.inr ⟨h.trans h', g.trans g'⟩

theorem lesser_below (a b : EReal × BitVec 32) : below (lesser a b) a ∧ below (lesser a b) b := by
  unfold lesser
  by_cases h : a.1 < b.1 ∨ a.1 = b.1 ∧ a.2.toInt < b.2.toInt
  · rw [if_pos h]
    exact ⟨below_refl a, h.imp_right fun h => ⟨h.1, h.2.le⟩⟩
  · rw [if_neg h]
    refine ⟨?_, below_refl b⟩
    push Not at h
    rcases lt_or_eq_of_le h.1 with h' | h'
    · exact Or.inl h'
    · exact Or.inr ⟨h', h.2 h'.symm⟩

theorem lesser_eq (a b : EReal × BitVec 32) : lesser a b = a ∨ lesser a b = b := by
  unfold lesser
  split
  · exact Or.inl rfl
  · exact Or.inr rfl

/-- Folding the lesser pair over a list leaves a member (or the start) that is below every member and the start. -/
theorem foldl_lesser (l : List (EReal × BitVec 32)) (a : EReal × BitVec 32) :
    (l.foldl lesser a = a ∨ l.foldl lesser a ∈ l) ∧ below (l.foldl lesser a) a ∧ ∀ b ∈ l, below (l.foldl lesser a) b := by
  induction l generalizing a with
  | nil => exact ⟨Or.inl rfl, below_refl a, fun b hb => absurd hb List.not_mem_nil⟩
  | cons x l ih =>
    obtain ⟨h1, h2, h3⟩ := ih (lesser a x)
    have hb := lesser_below a x
    refine ⟨?_, below_trans h2 hb.1, fun b hm => ?_⟩
    · rcases h1 with h1 | h1
      · rcases lesser_eq a x with e | e
        · exact Or.inl (h1.trans e)
        · exact Or.inr (List.mem_cons.mpr (Or.inl (h1.trans e)))
      · exact Or.inr (List.mem_cons_of_mem _ h1)
    · rcases List.mem_cons.mp hm with rfl | hm
      · exact below_trans h2 hb.2
      · exact h3 b hm

/-- Over the pairs of the entries and their positions, from the top and position zero, the fold ends at the
    first least position. -/
theorem foldl_first (d : Fin 1024 → EReal) (l : List (EReal × BitVec 32))
    (hl : ∀ p, p ∈ l ↔ ∃ k : Fin 1024, (d k, BitVec.ofNat 32 k.val) = p) :
    (l.foldl lesser (⊤, 0#32)).2 = BitVec.ofNat 32 (first d).val := by
  obtain ⟨h1, h2, h3⟩ := foldl_lesser l (⊤, 0#32)
  have hall : ∀ k : Fin 1024, below (l.foldl lesser (⊤, 0#32)) (d k, BitVec.ofNat 32 k.val) := fun k => h3 _ ((hl _).mpr ⟨k, rfl⟩)
  have key : ∀ n : Fin 1024, (∀ k : Fin 1024, below (d n, BitVec.ofNat 32 n.val) (d k, BitVec.ofNat 32 k.val)) → n = first d := fun n h =>
    eq_first d n fun k => (h k).imp_right fun h' => ⟨h'.1, by
      have := h'.2
      simp only [word_toInt] at this
      exact_mod_cast this⟩
  rcases h1 with h1 | h1
  · rw [h1] at hall ⊢
    have hd : ∀ k, d k = ⊤ := fun k => (hall k).elim (fun h => absurd h (not_lt.mpr le_top)) fun h => h.1.symm
    have e : (0 : Fin 1024) = first d := key 0 fun k => Or.inr ⟨by simp only [hd], by
      simp only [word_toInt]
      exact_mod_cast Nat.zero_le _⟩
    rw [← e]
    rfl
  · obtain ⟨n, hn⟩ := (hl _).mp h1
    rw [← hn] at hall ⊢
    rw [← key n hall]

/-! ## Indicator sums -/

/-- The 0/1 number of a proposition. -/
def ind (p : Prop) [Decidable p] : EReal := if p then 1 else 0

theorem ind_nonneg (p : Prop) [Decidable p] : 0 ≤ ind p := by
  unfold ind
  split
  · exact zero_le_one
  · exact le_rfl

/-- A sum against the indicator of one position reads the entry there. -/
theorem sum_one (a : Fin 1024 → EReal) (n : Fin 1024) (p : Fin 1024 → Prop) [DecidablePred p] (h : ∀ k, p k ↔ k = n) :
    ∑ k, a k * ind (p k) = a n := by
  rw [Finset.sum_eq_single n]
  · rw [ind, if_pos ((h n).mpr rfl), mul_one]
  · intro k _ hk
    rw [ind, if_neg fun h' => hk ((h k).mp h'), mul_zero]
  · exact fun h' => absurd (Finset.mem_univ _) h'

/-- Where the attaining positions count no more than one, only the first attains. -/
theorem attains_iff (d : Fin 1024 → EReal) (h : ∑ k, ind (d k = d (first d)) ≤ 1) (k : Fin 1024) :
    d k = d (first d) ↔ k = first d := by
  refine ⟨fun e => ?_, fun e => by rw [← e]⟩
  by_contra hne
  have h2 : (2 : EReal) ≤ 1 := by
    refine le_trans ?_ h
    refine le_trans ?_ (Finset.sum_le_sum_of_subset_of_nonneg (Finset.subset_univ {k, first d}) fun i _ _ => ind_nonneg _)
    rw [Finset.sum_pair hne, ind, if_pos e, ind, if_pos rfl, one_add_one_eq_two]
  exact absurd h2 (by norm_num)

/-! ## Words of one bit as numbers -/

/-- A one-bit word, widened and read as a number, is the indicator of its proposition. -/
theorem widened (p : Prop) [Decidable p] : (FloatOps.sitofp (F := Ideal) .f32 ((BitVec.ofBool (decide p)).setWidth 32) : EReal) = ind p := by
  unfold ind
  by_cases h : p
  · simp only [h, decide_true, if_true]
    show (((BitVec.setWidth 32 (BitVec.ofBool true)).toInt : ℝ) : EReal) = 1
    rw [show (BitVec.setWidth 32 (BitVec.ofBool true)).toInt = 1 by decide]
    norm_num
  · simp only [h, decide_false, if_false]
    show (((BitVec.setWidth 32 (BitVec.ofBool false)).toInt : ℝ) : EReal) = 0
    rw [show (BitVec.setWidth 32 (BitVec.ofBool false)).toInt = 0 by decide]
    norm_num

theorem widened_eq (a b : BitVec 32) : (FloatOps.sitofp (F := Ideal) .f32 ((IntOp.cmpi .eq a b).setWidth 32) : EReal) = ind (a = b) := by
  have e : IntOp.cmpi .eq a b = BitVec.ofBool (decide (a = b)) := by
    show BitVec.ofBool (a == b) = _
    congr 1
  rw [e, widened]

/-! ## Constants -/

theorem top_f32 : Ideal.ofBits .f32 2139095040#32 = ⊤ := by
  simp [Ideal.ofBits, Ideal.ieee]

theorem bot_f32 : Ideal.ofBits .f32 4286578688#32 = ⊥ := by
  simp [Ideal.ofBits, Ideal.ieee]

end Cert.Least

end
-- ==== Proof.KernelRows.lean ====
module

public import proofs.«01_k».proof.Proof.Body
public import proofs.«01_k».proof.Proof.Least

/-!
  One batch of the kernel on the extended reals: the rows it chooses are the codebook's rows at the first
  least squared distance, whichever branch it takes.
-/

@[expose] public section

set_option maxRecDepth 16384

noncomputable section

namespace Cert.KernelIdeal.Rows

open Idealize.ShloMosaic Idealize.ShloMosaic.TcCoe
open Cert.KernelIdeal.Gen Cert.KernelIdeal.Body Cert.Least

/-- The squared distance of a vector `v` of channels to row `k`, expanded. -/
def key (e : FVec Ideal S1024x32 .f32) (v : Fin 32 → EReal) (k : Fin 1024) : EReal :=
  ((∑ x, v x * v x) + ∑ x, e (ix2 k x) * e (ix2 k x)) - Ideal.ofBits .f32 1073741824#32 * ∑ x, e (ix2 k x) * v x

/-- The channels of a batch at position `p`. -/
abbrev at_ (lat : Vec Ideal S1x32x1024 .f32) (p : Fin 1024) : Fin 32 → EReal := fun x => lat (ix3 (0 : Fin 1) x p)

/-- Thirty-two terms added pairwise are their sum. -/
theorem sum32 (f : Fin 32 → EReal) :
    ((((f 0 + f 8 + f 16 + f 24) + (f 4 + f 12 + f 20 + f 28)) + ((f 2 + f 10 + f 18 + f 26) + (f 6 + f 14 + f 22 + f 30))) + (((f 1 + f 9 + f 17 + f 25) + (f 5 + f 13 + f 21 + f 29)) + ((f 3 + f 11 + f 19 + f 27) + (f 7 + f 15 + f 23 + f 31))))
      = ∑ x, f x := by
  simp only [Fin.sum_univ_succ, Finset.univ_eq_empty, Finset.sum_empty, add_zero]
  show _ = f 0 + (f 1 + (f 2 + (f 3 + (f 4 + (f 5 + (f 6 + (f 7 + (f 8 + (f 9 + (f 10 + (f 11 + (f 12 + (f 13 + (f 14 + (f 15 + (f 16
    + (f 17 + (f 18 + (f 19 + (f 20 + (f 21 + (f 22 + (f 23 + (f 24 + (f 25 + (f 26 + (f 27 + (f 28 + (f 29 + (f 30 + f 31))))))))))))))))))))))))))))))
  ac_rfl

/-- The squared distance with its squared length added pairwise. -/
theorem key_pairs (e : FVec Ideal S1024x32 .f32) (lat : Vec Ideal S1x32x1024 .f32) (p : Fin 1024) :
    key e (at_ lat p) = fun k =>
      (((((lat (ix3 (0 : Fin 1) (0 : Fin 32) p) * lat (ix3 (0 : Fin 1) (0 : Fin 32) p) + lat (ix3 (0 : Fin 1) ((8 : Fin 32)) p) * lat (ix3 (0 : Fin 1) ((8 : Fin 32)) p) + lat (ix3 (0 : Fin 1) ((16 : Fin 32)) p) * lat (ix3 (0 : Fin 1) ((16 : Fin 32)) p) + lat (ix3 (0 : Fin 1) ((24 : Fin 32)) p) * lat (ix3 (0 : Fin 1) ((24 : Fin 32)) p)) + (lat (ix3 (0 : Fin 1) ((4 : Fin 32)) p) * lat (ix3 (0 : Fin 1) ((4 : Fin 32)) p) + lat (ix3 (0 : Fin 1) ((12 : Fin 32)) p) * lat (ix3 (0 : Fin 1) ((12 : Fin 32)) p) + lat (ix3 (0 : Fin 1) ((20 : Fin 32)) p) * lat (ix3 (0 : Fin 1) ((20 : Fin 32)) p) + lat (ix3 (0 : Fin 1) ((28 : Fin 32)) p) * lat (ix3 (0 : Fin 1) ((28 : Fin 32)) p))) + ((lat (ix3 (0 : Fin 1) ((2 : Fin 32)) p) * lat (ix3 (0 : Fin 1) ((2 : Fin 32)) p) + lat (ix3 (0 : Fin 1) ((10 : Fin 32)) p) * lat (ix3 (0 : Fin 1) ((10 : Fin 32)) p) + lat (ix3 (0 : Fin 1) ((18 : Fin 32)) p) * lat (ix3 (0 : Fin 1) ((18 : Fin 32)) p) + lat (ix3 (0 : Fin 1) ((26 : Fin 32)) p) * lat (ix3 (0 : Fin 1) ((26 : Fin 32)) p)) + (lat (ix3 (0 : Fin 1) ((6 : Fin 32)) p) * lat (ix3 (0 : Fin 1) ((6 : Fin 32)) p) + lat (ix3 (0 : Fin 1) ((14 : Fin 32)) p) * lat (ix3 (0 : Fin 1) ((14 : Fin 32)) p) + lat (ix3 (0 : Fin 1) ((22 : Fin 32)) p) * lat (ix3 (0 : Fin 1) ((22 : Fin 32)) p) + lat (ix3 (0 : Fin 1) ((30 : Fin 32)) p) * lat (ix3 (0 : Fin 1) ((30 : Fin 32)) p)))) + (((lat (ix3 (0 : Fin 1) ((1 : Fin 32)) p) * lat (ix3 (0 : Fin 1) ((1 : Fin 32)) p) + lat (ix3 (0 : Fin 1) ((9 : Fin 32)) p) * lat (ix3 (0 : Fin 1) ((9 : Fin 32)) p) + lat (ix3 (0 : Fin 1) ((17 : Fin 32)) p) * lat (ix3 (0 : Fin 1) ((17 : Fin 32)) p) + lat (ix3 (0 : Fin 1) ((25 : Fin 32)) p) * lat (ix3 (0 : Fin 1) ((25 : Fin 32)) p)) + (lat (ix3 (0 : Fin 1) ((5 : Fin 32)) p) * lat (ix3 (0 : Fin 1) ((5 : Fin 32)) p) + lat (ix3 (0 : Fin 1) ((13 : Fin 32)) p) * lat (ix3 (0 : Fin 1) ((13 : Fin 32)) p) + lat (ix3 (0 : Fin 1) ((21 : Fin 32)) p) * lat (ix3 (0 : Fin 1) ((21 : Fin 32)) p) + lat (ix3 (0 : Fin 1) ((29 : Fin 32)) p) * lat (ix3 (0 : Fin 1) ((29 : Fin 32)) p))) + ((lat (ix3 (0 : Fin 1) ((3 : Fin 32)) p) * lat (ix3 (0 : Fin 1) ((3 : Fin 32)) p) + lat (ix3 (0 : Fin 1) ((11 : Fin 32)) p) * lat (ix3 (0 : Fin 1) ((11 : Fin 32)) p) + lat (ix3 (0 : Fin 1) ((19 : Fin 32)) p) * lat (ix3 (0 : Fin 1) ((19 : Fin 32)) p) + lat (ix3 (0 : Fin 1) ((27 : Fin 32)) p) * lat (ix3 (0 : Fin 1) ((27 : Fin 32)) p)) + (lat (ix3 (0 : Fin 1) ((7 : Fin 32)) p) * lat (ix3 (0 : Fin 1) ((7 : Fin 32)) p) + lat (ix3 (0 : Fin 1) ((15 : Fin 32)) p) * lat (ix3 (0 : Fin 1) ((15 : Fin 32)) p) + lat (ix3 (0 : Fin 1) ((23 : Fin 32)) p) * lat (ix3 (0 : Fin 1) ((23 : Fin 32)) p) + lat (ix3 (0 : Fin 1) ((31 : Fin 32)) p) * lat (ix3 (0 : Fin 1) ((31 : Fin 32)) p)))))
        + ∑ x, e (ix2 k x) * e (ix2 k x)) - Ideal.ofBits .f32 1073741824#32 * ∑ x, e (ix2 k x) * lat (ix3 (0 : Fin 1) x p) := by
  funext k
  unfold key
  rw [← sum32 fun x => at_ lat p x * at_ lat p x]

set_option maxHeartbeats 1000000 in
/-- The mask marks the rows at the least distance. -/
theorem mask (e : FVec Ideal S1024x32 .f32) (e2 : FVec Ideal S1024x1 .f32) (lat : Vec Ideal S1x32x1024 .f32)
    (h2 : ∀ k : Fin 1024, e2 (ix2 k (0 : Fin 1)) = ∑ x, e (ix2 k x) * e (ix2 k x)) (k p : Fin 1024) :
    k0_pay21 e (k0_pay9 e2) lat (ix2 k p)
      = BitVec.ofBool (decide (key e (at_ lat p) k = key e (at_ lat p) (first (key e (at_ lat p))))) := by
  rw [← fold_min (key e (at_ lat p)), key_pairs]
  pointwise [k0_pay21, k0_pay9, k0_pay20]
  simp only [top_f32, h2]

/-- The same mask as words. -/
theorem mask_wide (e : FVec Ideal S1024x32 .f32) (e2 : FVec Ideal S1024x1 .f32) (lat : Vec Ideal S1x32x1024 .f32) (j : S1024x1024.Idx) :
    k0_pay22 e (k0_pay9 e2) lat j = (k0_pay21 e (k0_pay9 e2) lat j).setWidth 32 := rfl

/-- The product with the widened mask: a sum against the indicator of the marked rows. -/
theorem gathered (e : FVec Ideal S1024x32 .f32) (ea : FVec Ideal S33x1024 .f32) (e2 : FVec Ideal S1024x1 .f32) (lat : Vec Ideal S1x32x1024 .f32)
    (h2 : ∀ k : Fin 1024, e2 (ix2 k (0 : Fin 1)) = ∑ x, e (ix2 k x) * e (ix2 k x)) (k : Fin 33) (p : Fin 1024) :
    k0_pay1 (k0_pay8 ea) (k0_pay22 e (k0_pay9 e2) lat) (ix2 k p)
      = ∑ x, ea (ix2 k x) * ind (key e (at_ lat p) x = key e (at_ lat p) (first (key e (at_ lat p)))) := by
  pointwise [k0_pay1, k0_pay8]
  simp only [mask_wide, mask e e2 lat h2, widened]

/-- The branch is taken when the count exceeds one. -/
theorem tied_iff (n : EReal) : tied (F := Ideal) n ↔ 1 < n := by
  have e : (Scalar.cmpf (F := Ideal) (φ := .f32) .ogt n (Scalar.ofBits .f32 0x3F800000#32)) = BitVec.ofBool (decide ((1 : EReal) < n)) := by
    show Ideal.cmp .ogt n (Ideal.ofBits .f32 0x3F800000#32) = _
    rw [Ideal.ofBits_one_f32]
    rfl
  unfold tied
  rw [e]
  by_cases h : (1 : EReal) < n
  · simp only [h, decide_true, iff_true]
    decide
  · simp only [h, decide_false, iff_false]
    decide

set_option maxHeartbeats 1000000 in
/-- The rows chosen are the codebook's at the first least distance. -/
theorem rows_eq (e : FVec Ideal S1024x32 .f32) (ea : FVec Ideal S33x1024 .f32) (e2 : FVec Ideal S1024x1 .f32) (lat : Vec Ideal S1x32x1024 .f32)
    (h2 : ∀ k : Fin 1024, e2 (ix2 k (0 : Fin 1)) = ∑ x, e (ix2 k x) * e (ix2 k x))
    (ht : ∀ (c : Fin 32) (k : Fin 1024), ea (ix2 (⟨c.val, by omega⟩ : Fin 33) k) = e (ix2 k c))
    (h1 : ∀ k : Fin 1024, ea (ix2 (32 : Fin 33) k) = 1) (c : Fin 32) (p : Fin 1024) :
    rows e ea e2 lat (ix2 c p) = e (ix2 (first (key e (at_ lat p))) c) := by
  unfold rows
  split
  · have hm : ∀ x : Fin 1024, k0_pay21 e (k0_pay9 e2) lat (ix2 x p) = _ := fun x => mask e e2 lat h2 x p
    pointwise [k0_pay4, k0_pay8]
    have hf := fold_minsi (key e (at_ lat p)) (fun x => k0_pay21 e (k0_pay9 e2) lat (ix2 x p)) hm
    simp only [hf, widened_eq, ht]
    exact sum_one (fun x => e (ix2 x c)) (first (key e (at_ lat p))) _ fun k => ⟨word_inj _ _, fun h => by rw [h]⟩
  · rename_i hn
    rw [tied_iff, not_lt] at hn
    have hcount : ∑ x, ind (key e (at_ lat p) x = key e (at_ lat p) (first (key e (at_ lat p)))) ≤ 1 := by
      refine le_trans ?_ hn
      have hg : k0_pay1 (F := Ideal) (k0_pay8 ea) (k0_pay22 e (k0_pay9 e2) lat) (ix2 (32 : Fin 33) p)
          = ∑ x, ind (key e (at_ lat p) x = key e (at_ lat p) (first (key e (at_ lat p)))) := by
        rw [gathered e ea e2 lat h2]
        simp only [h1, one_mul]
      rw [← hg]
      pointwise [k0_pay3]
      exact (Finset.le_fold_max _).mpr (Or.inr ⟨((0 : Fin 1), p), Finset.mem_univ _, le_rfl⟩)
    pointwise [k0_pay2]
    rw [gathered e ea e2 lat h2]
    simp only [ht]
    exact sum_one (fun x => e (ix2 x c)) (first (key e (at_ lat p))) _ (attains_iff _ hcount)

end Cert.KernelIdeal.Rows

end
-- ==== Proof.RefValue.lean ====
module

public import proofs.«01_k».proof.Proof.RefRun
public import proofs.«01_k».proof.Proof.KernelRows
public import Idealize.ShloMosaic.Lib.ReduceAll
public import Idealize.ShloMosaic.Lib.Routing.Ops

/-!
  The reference's two results on the extended reals, read at an index: the codebook row at the first least
  squared distance of each latent vector, and a sum of squared differences over all entries.
-/

@[expose] public section

set_option maxRecDepth 16384

noncomputable section

/-! ## The values both programs are shown to leave -/

namespace Cert.Target

open Idealize.ShloMosaic Idealize.ShloMosaic.TcCoe
open Cert.Least

/-- The shapes of the two arguments. -/
abbrev Latents : Shape := ⟨4, ![32, 32, 32, 32]⟩
abbrev Codebook : Shape := ⟨2, ![1024, 32]⟩

/-- The latent vector of batch `b` at position `p`, counted along the rows of the image. -/
def vec (x : Latents.Idx → EReal) (b : Fin 32) (p : Fin 1024) (c : Fin 32) : EReal :=
  x (ix4 b c (⟨p.val / 32, by omega⟩ : Fin 32) (⟨p.val % 32, by omega⟩ : Fin 32))

/-- The row chosen for it. -/
def row (x : Latents.Idx → EReal) (e : Codebook.Idx → EReal) (b : Fin 32) (p : Fin 1024) : Fin 1024 :=
  first (Cert.KernelIdeal.Rows.key e (vec x b p))

/-- The first result: the chosen row's channels at each position. -/
def out (x : Latents.Idx → EReal) (e : Codebook.Idx → EReal) (j : Latents.Idx) : EReal :=
  e (ix2 (row x e (j 0) (⟨(j 2).val * 32 + (j 3).val, by have h2 : (j 2).val < 32 := (j 2).isLt; have h3 : (j 3).val < 32 := (j 3).isLt; omega⟩ : Fin 1024)) (j 1))

/-- The squared difference of an entry of the latents from the chosen row's. -/
def diff (x : Latents.Idx → EReal) (e : Codebook.Idx → EReal) (b : Fin 32) (c : Fin 32) (p : Fin 1024) : EReal :=
  (vec x b p c - e (ix2 (row x e b p) c)) * (vec x b p c - e (ix2 (row x e b p) c))

/-- The sum of the squared differences. -/
def sse (x : Latents.Idx → EReal) (e : Codebook.Idx → EReal) : EReal := ∑ b : Fin 32, ∑ c : Fin 32, ∑ p : Fin 1024, diff x e b c p

/-- A square is not negative. -/
theorem sq_nonneg (a : EReal) : 0 ≤ a * a := by
  induction a with
  | bot => rw [EReal.bot_mul_bot]; exact le_top
  | top => rw [EReal.top_mul_top]; exact le_top
  | coe r => rw [← EReal.coe_mul]; exact_mod_cast mul_self_nonneg r

theorem sse_nonneg (x : Latents.Idx → EReal) (e : Codebook.Idx → EReal) : 0 ≤ sse x e :=
  Finset.sum_nonneg fun b _ => Finset.sum_nonneg fun c _ => Finset.sum_nonneg fun p _ => sq_nonneg _

/-- The loss: one and a quarter times the mean. -/
def loss (x : Latents.Idx → EReal) (e : Codebook.Idx → EReal) : EReal :=
  sse x e * ((1.25 / 1048576 : ℝ) : EReal)

end Cert.Target

/-! ## The reference's steps at an index -/

namespace Cert.ReferenceIdeal.Value

open Idealize.ShloMosaic Idealize.ShloMosaic.TcCoe
open Cert.ReferenceIdeal.Gen Cert.ReferenceIdeal.Line Cert.Least Cert.Target

/-- The distances are the keys. -/
theorem dist_at (v : FVec Ideal S32768x32 .f32) (e : FVec Ideal S1024x32 .f32) (j : Fin 32768) (k : Fin 1024) :
    Line.dist v e (ix2 j k) = Cert.KernelIdeal.Rows.key e (fun c => v (ix2 j c)) k := by
  unfold Cert.KernelIdeal.Rows.key
  pointwise [Line.dist, norms, rowNorms, Line.inner]
  simp only [mul_comm (v (ix2 j _)) (e _)]

/-- The reduction's pair is the lesser of the two. -/
theorem reducer_lesser : (reducer_argmin_f32_i32 (F := Ideal)) = lesser := by
  funext a b
  obtain ⟨a, i⟩ := a
  obtain ⟨b, k⟩ := b
  unfold reducer_argmin_f32_i32 lesser
  have e1 : FloatOps.cmpf (F := Ideal) (φ := .f32) .olt a b = BitVec.ofBool (decide ((a : EReal) < b)) := rfl
  have e2 : FloatOps.cmpf (F := Ideal) (φ := .f32) .une a a = 0#1 := by
    show BitVec.ofBool (decide ((a : EReal) ≠ a)) = 0#1
    simp
  have e3 : FloatOps.cmpf (F := Ideal) (φ := .f32) .oeq a b = BitVec.ofBool (decide ((a : EReal) = b)) := rfl
  have e4 : IntOp.cmpi .slt i k = BitVec.ofBool (decide (i.toInt < k.toInt)) := by
    show BitVec.ofBool (i.slt k) = _
    congr 1
  simp only [e1, e2, e3, e4]
  have e5 : ∀ y : BitVec 1, 1#1 ||| y = 1#1 := by decide
  by_cases h1 : (a : EReal) < b
  · simp [h1, e5, Scalar.select, IntOp.ori, IntOp.andi]
  · by_cases h2 : (a : EReal) = b
    · subst h2
      by_cases h3 : i.toInt < k.toInt
      · simp [h3, Scalar.select, IntOp.ori, IntOp.andi]
      · simp [h3, Scalar.select, IntOp.ori, IntOp.andi]
    · simp [h1, h2, Scalar.select, IntOp.ori, IntOp.andi]

/-- The index a reduction along the columns ends with is the first least position of its row. -/
theorem argmin_rows {R : ℕ} {t u : Shape} (h : (⟨2, ![R, 1024]⟩ : Shape).ReducesTo [1] t) (hu : 0 < u.numel)
    (d : FVec Ideal ⟨2, ![R, 1024]⟩ .f32) (y : IVec ⟨2, ![R, 1024]⟩ 32) (hy : ∀ r k, y (ix2 r k) = BitVec.ofNat 32 k.val)
    (ix : FVec Ideal u .f32) (hix : ∀ i, ix i = (⊤ : EReal)) (iy : IVec u 32) (hiy : ∀ i, iy i = 0#32) (j : t.Idx) :
    (Host.argReduce (reducer_argmin_f32_i32 (F := Ideal)) d y ix iy h hu j).2
      = BitVec.ofNat 32 (first fun k => d (ix2 (⟨(j ⟨0, h.lt_r2_a1_0⟩).val, Shape.coordLt (j ⟨0, h.lt_r2_a1_0⟩) h.size_r2_a1_0⟩ : Fin R) k)).val := by
  rw [Ideal.argReduce_eq_reduce2, Host.reduce2_eq_foldl_fiber, reducer_lesser, hix, hiy]
  refine foldl_first (fun k => d (ix2 _ k)) _ fun p => ?_
  unfold Host.argReduceFiber
  simp only [List.mem_map, List.mem_filter, List.mem_finRange, true_and, decide_eq_true_eq]
  constructor
  · rintro ⟨n, hn, rfl⟩
    obtain ⟨k, hk⟩ := (Shape.ReducesTo.fiber_r2_a1 h j _).mp hn
    refine ⟨k, ?_⟩
    rw [← hk, hy]
  · rintro ⟨k, rfl⟩
    refine ⟨(⟨2, ![R, 1024]⟩ : Shape).rowMajor (ix2 (⟨(j ⟨0, h.lt_r2_a1_0⟩).val, Shape.coordLt (j ⟨0, h.lt_r2_a1_0⟩) h.size_r2_a1_0⟩ : Fin R) k), ?_, ?_⟩
    · rw [Equiv.symm_apply_apply]
      exact (Shape.ReducesTo.fiber_r2_a1 h j _).mpr ⟨k, rfl⟩
    · rw [Equiv.symm_apply_apply, hy]

theorem iota_at (r : Fin 32768) (k : Fin 1024) : iotaInDim S32768x1024 32 1 (ix2 r k) = BitVec.ofNat 32 k.val := by
  pointwise

theorem top_at (i : S_.Idx) : (constant S_ .f32 0x7F800000#32 : FVec Ideal S_ .f32) i = (⊤ : EReal) := by
  pointwise
  exact top_f32

theorem zero_at (i : S_.Idx) : constantI S_ 32 0#32 i = 0#32 := by
  pointwise

/-- The same, at the reference's own positions. -/
theorem argmin_at (d : FVec Ideal S32768x1024 .f32) (j : Fin 32768) :
    (Host.argReduce (reducer_argmin_f32_i32 (F := Ideal)) d (iotaInDim S32768x1024 32 1) (constant S_ .f32 0x7F800000#32)
      (constantI S_ 32 0#32) reducesTo_S32768x1024_S32768_d1 h_S_ (ix1 j)).2 = BitVec.ofNat 32 (first fun k => d (ix2 j k)).val :=
  argmin_rows (R := 32768) (t := S32768) (u := S_) reducesTo_S32768x1024_S32768_d1 h_S_ d _ iota_at _ top_at _ zero_at (ix1 j)

/-- The index of the least entry is the first least position. -/
theorem best_at (d : FVec Ideal S32768x1024 .f32) (j : Fin 32768) :
    best d (ix1 j) = BitVec.ofNat 32 (first fun k => d (ix2 j k)).val := by
  rw [best, seconds, argmin_at]

/-- An index in range is not wrapped. -/
theorem wrapped_at (i : IVec S32768 32) (j : Fin 32768) (n : Fin 1024) (h : i (ix1 j) = BitVec.ofNat 32 n.val) :
    wrapped i (ix2 j (0 : Fin 1)) = BitVec.ofNat 32 n.val := by
  pointwise [wrapped]
  rw [h]
  have e : IntOp.cmpi .slt (BitVec.ofNat 32 n.val) 0#32 = 0#1 := by
    show BitVec.ofBool ((BitVec.ofNat 32 n.val).slt 0#32) = 0#1
    have : (BitVec.ofNat 32 n.val).slt 0#32 = false := by
      rw [Bool.eq_false_iff]
      intro h'
      have := BitVec.slt_iff_toInt_lt.mp h'
      rw [word_toInt] at this
      have h0 : (0#32 : BitVec 32).toInt = 0 := rfl
      omega
    rw [this]
    rfl
  rw [e]
  rfl

/-- All indices in range are found so. -/
theorem within_at (i : IVec S32768x1 32) (h : ∀ j : Fin 32768, ∃ n : Fin 1024, i (ix2 j (0 : Fin 1)) = BitVec.ofNat 32 n.val) (j : S32768.Idx) :
    within i j = 1#1 := by
  unfold within
  refine Host.reduce_andi_one _ _ _ _ _ rfl fun y => ?_
  obtain ⟨a, b, rfl⟩ : ∃ (a : Fin 32768) (b : Fin 1), y = ix2 a b := ⟨y 0, y 1, eq_ix2 y⟩
  obtain rfl : b = 0 := Subsingleton.elim _ _
  obtain ⟨n, hn⟩ := h a
  pointwise
  rw [hn]
  have hlt := n.isLt
  have e1 : IntOp.cmpi .sge (BitVec.ofNat 32 n.val) 0#32 = 1#1 := by
    show BitVec.ofBool ((0#32).sle (BitVec.ofNat 32 n.val)) = 1#1
    have : (0#32).sle (BitVec.ofNat 32 n.val) = true := by
      rw [BitVec.sle_iff_toInt_le, word_toInt]
      exact Int.natCast_nonneg _
    rw [this]
    rfl
  have e2 : IntOp.cmpi .sle (BitVec.ofNat 32 n.val) 1023#32 = 1#1 := by
    show BitVec.ofBool ((BitVec.ofNat 32 n.val).sle 1023#32) = 1#1
    have : (BitVec.ofNat 32 n.val).sle 1023#32 = true := by
      rw [BitVec.sle_iff_toInt_le, word_toInt]
      have : (1023#32 : BitVec 32).toInt = 1023 := rfl
      omega
    rw [this]
    rfl
  rw [e1, e2]
  rfl

/-- The rows taken. -/
theorem taken_at (e : FVec Ideal S1024x32 .f32) (i : IVec S32768x1 32) (n : Fin 32768 → Fin 1024)
    (h : ∀ j : Fin 32768, i (ix2 j (0 : Fin 1)) = BitVec.ofNat 32 (n j).val) (j : Fin 32768) (c : Fin 32) :
    taken e i (ix2 j c) = e (ix2 (n j) c) := by
  pointwise [taken]
  rw [within_at i (fun j => ⟨n j, h j⟩)]
  exact Routing.gather_row gather_S1024x32_S32768x1_S32768x32_1_0_n_n_0_1_132 rfl rfl rfl rfl rfl e i j c (n j) (h j) (by norm_num)

/-- The channels-last latents, and the vectors, at an index. -/
theorem vectors_at (x : FVec Ideal S32x32x32x32 .f32) (j : Fin 32768) (c : Fin 32) :
    vectors x (ix2 j c) = vec x (⟨j.val / 1024, by omega⟩ : Fin 32) (⟨j.val % 1024, by omega⟩ : Fin 1024) c := by
  unfold vec
  pointwise [vectors, last]
  congr 1
  refine congrArg₂ (fun a b => ix4 _ c a b) (Fin.ext ?_) (Fin.ext ?_)
  · show j.val / 32 % 32 = j.val % 1024 / 32
    omega
  · show j.val % 32 = j.val % 1024 % 32
    omega

/-- The index found for a vector is the row chosen for it. -/
theorem best_row (x : FVec Ideal S32x32x32x32 .f32) (e : FVec Ideal S1024x32 .f32) (j : Fin 32768) :
    best (Line.dist (vectors x) e) (ix1 j)
      = BitVec.ofNat 32 (row x e (⟨j.val / 1024, by omega⟩ : Fin 32) (⟨j.val % 1024, by omega⟩ : Fin 1024)).val := by
  have hd : (fun k => Line.dist (vectors x) e (ix2 j k))
      = Cert.KernelIdeal.Rows.key e (vec x (⟨j.val / 1024, by omega⟩ : Fin 32) (⟨j.val % 1024, by omega⟩ : Fin 1024)) := by
    funext k
    rw [dist_at]
    exact congrArg (fun v => Cert.KernelIdeal.Rows.key e v k) (funext fun c => vectors_at x j c)
  rw [best_at, hd]
  rfl

/-- The rows chosen, channels last. -/
theorem chosen_at (x : FVec Ideal S32x32x32x32 .f32) (e : FVec Ideal S1024x32 .f32) (b h w c : Fin 32) :
    chosen x e (ix4 b h w c) = e (ix2 (row x e b (⟨h.val * 32 + w.val, by omega⟩ : Fin 1024)) c) := by
  have ht := taken_at e (wrapped (best (Line.dist (vectors x) e)))
    (fun j => row x e (⟨j.val / 1024, by omega⟩ : Fin 32) (⟨j.val % 1024, by omega⟩ : Fin 1024))
    (fun j => wrapped_at _ j _ (best_row x e j))
  unfold chosen
  pointwise
  rw [ht]
  congr 2
  refine congrArg₂ (row x e) (Fin.ext ?_) (Fin.ext ?_)
  · show (b.val * 1024 + h.val * 32 + w.val) / 1024 = b.val
    omega
  · show (b.val * 1024 + h.val * 32 + w.val) % 1024 = h.val * 32 + w.val
    omega

/-- Going by way of a finite number and back. -/
theorem by_way (x q : EReal) (h1 : x ≠ ⊤) (h2 : x ≠ ⊥) : x + (q - x) = q := by
  lift x to ℝ using ⟨h1, h2⟩
  induction q with
  | bot => simp
  | top => simp
  | coe r => norm_cast; ring

/-- The first result. -/
theorem out_at (x : FVec Ideal S32x32x32x32 .f32) (e : FVec Ideal S1024x32 .f32) (hx : ∀ j, x j ≠ (⊤ : EReal) ∧ x j ≠ (⊥ : EReal)) :
    outRef x e = Target.out x e := by
  funext j
  obtain ⟨b, c, h, w, rfl⟩ : ∃ (b c h w : Fin 32), j = ix4 b c h w := ⟨j 0, j 1, j 2, j 3, eq_ix4 j⟩
  unfold outRef
  pointwise [blend, last]
  rw [chosen_at]
  exact by_way _ _ (hx _).1 (hx _).2

/-- The indices of the latents as four coordinates. -/
def coords : (Fin 32 × Fin 32 × Fin 32 × Fin 32) ≃ S32x32x32x32.Idx where
  toFun a := ix4 a.1 a.2.1 a.2.2.1 a.2.2.2
  invFun j := (j 0, j 1, j 2, j 3)
  left_inv _ := rfl
  right_inv j := (eq_ix4 j).symm

/-- Positions as rows and columns of the image. -/
theorem sum_positions (f : Fin 1024 → EReal) : ∑ p, f p = ∑ h : Fin 32, ∑ w : Fin 32, f (⟨h.val * 32 + w.val, by omega⟩ : Fin 1024) := by
  rw [← Fintype.sum_prod_type' (f := fun h w : Fin 32 => f (⟨h.val * 32 + w.val, by omega⟩ : Fin 1024))]
  refine (Fintype.sum_equiv (finProdFinEquiv (m := 32) (n := 32)) _ _ fun a => congrArg f (Fin.ext ?_)).symm
  show a.1.val * 32 + a.2.val = a.2.val + 32 * a.1.val
  omega

/-- The reduction to one number is the sum over all coordinates. -/
theorem reduce_all (v : S32x32x32x32.Idx → EReal) (j : S_.Idx) :
    Ideal.hostReduceAdd reducesTo_S32x32x32x32_S_d0_1_2_3 v 0 j = ∑ b : Fin 32, ∑ h : Fin 32, ∑ w : Fin 32, ∑ c : Fin 32, v (ix4 b h w c) := by
  have : Subsingleton S_.Idx := ⟨fun a b => funext fun i => i.elim0⟩
  unfold Ideal.hostReduceAdd
  rw [zero_add, Finset.filter_true_of_mem fun i _ => Subsingleton.elim _ _, ← Fintype.sum_equiv coords _ _ fun _ => rfl]
  simp only [Fintype.sum_prod_type]
  rfl

/-- The sum of the squared differences. -/
theorem sse_at (x : FVec Ideal S32x32x32x32 .f32) (e : FVec Ideal S1024x32 .f32) (j : S_.Idx) :
    Ideal.hostReduceAdd reducesTo_S32x32x32x32_S_d0_1_2_3 (mulf (subf (last x) (chosen x e)) (subf (last x) (chosen x e))) 0 j = sse x e := by
  rw [reduce_all]
  unfold sse
  refine Finset.sum_congr rfl fun b _ => ?_
  rw [Finset.sum_comm (f := fun c p => diff x e b c p), sum_positions]
  refine Finset.sum_congr rfl fun h _ => Finset.sum_congr rfl fun w _ => Finset.sum_congr rfl fun c _ => ?_
  have hv : last x (ix4 b h w c) = vec x b (⟨h.val * 32 + w.val, by omega⟩ : Fin 1024) c := by
    unfold vec
    pointwise [last]
    congr 1
    refine congrArg₂ (fun a b' => ix4 b c a b') (Fin.ext ?_) (Fin.ext ?_)
    · show h.val = (h.val * 32 + w.val) / 32
      omega
    · show w.val = (h.val * 32 + w.val) % 32
      omega
  show (last x (ix4 b h w c) - chosen x e (ix4 b h w c) : EReal) * (last x (ix4 b h w c) - chosen x e (ix4 b h w c)) = _
  rw [hv, chosen_at]
  rfl

theorem million : Ideal.ofBits .f32 0x49800000#32 = ((1048576 : ℝ) : EReal) := by
  simp [Ideal.ofBits, Ideal.ieee, -EReal.coe_mul]
  norm_num

theorem quarter : Ideal.ofBits .f32 0x3E800000#32 = ((1 / 4 : ℝ) : EReal) := by
  simp [Ideal.ofBits, Ideal.ieee, -EReal.coe_mul]
  norm_num

/-- A mean and a quarter of it. -/
theorem mean_quarter (s : EReal) (hs : 0 ≤ s) :
    Ideal.div s ((1048576 : ℝ) : EReal) + ((1 / 4 : ℝ) : EReal) * Ideal.div s ((1048576 : ℝ) : EReal) = s * ((1.25 / 1048576 : ℝ) : EReal) := by
  rw [Ideal.div_coe (by norm_num)]
  induction s with
  | bot => exact absurd hs (by simp)
  | top =>
    rw [EReal.top_mul_coe_of_pos (by norm_num), EReal.coe_mul_top_of_pos (by norm_num), EReal.top_mul_coe_of_pos (by norm_num)]
    rfl
  | coe r => norm_cast; ring

/-- The second result. -/
theorem loss_at (x : FVec Ideal S32x32x32x32 .f32) (e : FVec Ideal S1024x32 .f32) : lossRef x e = fun _ => Target.loss x e := by
  funext j
  obtain rfl : j = ix0 := funext fun i => i.elim0
  unfold lossRef
  pointwise [total, mean]
  rw [sse_at]
  have := mean_quarter (sse x e) (sse_nonneg x e)
  rw [← million, ← quarter] at this
  exact this

end Cert.ReferenceIdeal.Value

end
-- ==== Proof.KernelBlocks.lean ====
module

public import proofs.«01_k».proof.Proof.Run
public import proofs.«01_k».proof.Proof.RefValue
public import Idealize.ShloMosaic.Lib.StableHlo.Run

/-!
  What the kernel's windows hold at each point of the grid, on the extended reals: two batches of the latents,
  the codebook, its transpose over a row of ones, and the squared lengths of its rows.
-/

@[expose] public section

set_option maxRecDepth 16384

noncomputable section

namespace Cert.KernelIdeal.Blocks

open Idealize.ShloMosaic Idealize.ShloMosaic.TcCoe Idealize.ShloMosaic.StableHlo Idealize.SL.Sem
open Idealize.ShloMosaic.Pipeline (Dat)
open Cert.KernelIdeal.Gen Cert.KernelIdeal.Body Cert.KernelIdeal.Run Cert.Target

variable (m : (ℓ : Loc nD τ sig) → Buf (Elt Ideal) ℓ) (ρ : Dev nD → PrngReg)

/-- The two arguments. -/
abbrev X (c : Dev nD) : FVec Ideal S32x32x32x32 .f32 := m ((c : Thread nD τ).loc main_arg0)
abbrev E (c : Dev nD) : FVec Ideal S1024x32 .f32 := m ((c : Thread nD τ).loc main_arg1)

/-! ## What the operations before the region leave -/

theorem V_v0 (c : Dev nD) : (V m c main_v0 : FVec Ideal S32x32x1024 .f32) = shapeCast S32x32x1024 (X m c) shapeCasts_S32x32x32x32_S32x32x1024 := by
  show StableHlo.after (List.flatten [hostOps0]) (fun b => m (c, b)) (Proc.devRef .tc main_v0) = _
  simp only [hostOps0, List.flatten_cons, List.flatten_nil, List.append_nil]
  after_results
  rfl

theorem V_v3 (c : Dev nD) : (V m c main_v3 : FVec Ideal S1024x1 .f32)
    = shapeCast S1024x1 (Host.reduceAdd (mulf (E m c) (E m c)) (constant S_ .f32 0x00000000#32) reducesTo_S1024x32_S1024_d1 h_S_) shapeCasts_S1024_S1024x1 := by
  show StableHlo.after (List.flatten [hostOps0]) (fun b => m (c, b)) (Proc.devRef .tc main_v3) = _
  simp only [hostOps0, List.flatten_cons, List.flatten_nil, List.append_nil]
  after_results
  rfl

theorem V_v6 (c : Dev nD) : (V m c main_v6 : FVec Ideal S33x1024 .f32)
    = concatenate S33x1024 0 [⟨S32x1024, transpose S32x1024 [1, 0] (E m c) transposes_S1024x32_S32x1024_1_0⟩,
        ⟨S1x1024, broadcastInDim S1x1024 ![] bcast_S_S1x1024 (constant S_ .f32 0x3F800000#32)⟩] concatenates_S32x1024_S1x1024_S33x1024_d0 := by
  show StableHlo.after (List.flatten [hostOps0]) (fun b => m (c, b)) (Proc.devRef .tc main_v6) = _
  simp only [hostOps0, List.flatten_cons, List.flatten_nil, List.append_nil]
  after_results

/-! ## Where the windows' blocks sit -/

theorem index0 : ∀ t : Fin grid0.N, win0_0.index t 0 = t.val ∧ win0_0.index t 1 = 0 ∧ win0_0.index t 2 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = t.val ∧ win0_4.index t 1 = 0 ∧ win0_4.index t 2 = 0 := by decide +kernel
theorem index5 : ∀ t : Fin grid0.N, win0_5.index t 0 = 0 ∧ win0_5.index t 1 = 0 := by decide +kernel

theorem point_lt (t : Fin cfg0.N) : t.val < 16 := lt_of_lt_of_eq t.isLt (show cfg0.N = 16 from N_0)

/-- The batch at place `r` of point `t`. -/
abbrev batch (t : Fin cfg0.N) (r : Fin 2) : Fin 32 := ⟨2 * t.val + r.val, by have := point_lt t; omega⟩

theorem block0 (c : Dev nD) (t : Fin cfg0.N) (r : Fin 2) (x : Fin 32) (p : Fin 1024) :
    (iblk m c 0 t : Vec Ideal S2x32x1024 .f32) (ix3 r x p) = vec (X m c) (batch t r) p x := by
  have hj : (iblk m c 0 t : Vec Ideal S2x32x1024 .f32) (ix3 r x p) = (V m c main_v0 : FVec Ideal S32x32x1024 .f32) (ix3 (batch t r) x p) := by
    unfold iblk
    rw [View.read_apply]
    show V m c main_v0 _ = V m c main_v0 _
    congr 1
    funext a
    apply Fin.ext
    obtain ⟨h0, h1, h2⟩ := index0 t
    match a with
    | ⟨0, _⟩ => show win0_0.index t 0 * 2 + 1 * r.val = 2 * t.val + r.val; rw [h0]; omega
    | ⟨1, _⟩ => show win0_0.index t 1 * 32 + 1 * x.val = x.val; rw [h1]; omega
    | ⟨2, _⟩ => show win0_0.index t 2 * 1024 + 1 * p.val = p.val; rw [h2]; omega
  rw [hj, V_v0]
  unfold vec
  pointwise

theorem block1 (c : Dev nD) (t : Fin cfg0.N) (k : Fin 1024) (x : Fin 32) :
    (iblk m c 1 t : Vec Ideal S1024x32 .f32) (ix2 k x) = E m c (ix2 k x) := by
  unfold iblk
  rw [View.read_apply]
  show V m c main_arg1 _ = _
  rw [V_main_arg1]
  show m _ _ = m _ _
  congr 1
  funext a
  apply Fin.ext
  obtain ⟨h0, h1⟩ := index1 t
  match a with
  | ⟨0, _⟩ => show win0_1.index t 0 * 1024 + 1 * k.val = k.val; rw [h0]; omega
  | ⟨1, _⟩ => show win0_1.index t 1 * 32 + 1 * x.val = x.val; rw [h1]; omega

theorem block2 (c : Dev nD) (t : Fin cfg0.N) (k : Fin 33) (x : Fin 1024) :
    (iblk m c 2 t : Vec Ideal S33x1024 .f32) (ix2 k x) = (V m c main_v6 : FVec Ideal S33x1024 .f32) (ix2 k x) := by
  unfold iblk
  rw [View.read_apply]
  show V m c main_v6 _ = V m c main_v6 _
  congr 1
  funext a
  apply Fin.ext
  obtain ⟨h0, h1⟩ := index2 t
  match a with
  | ⟨0, _⟩ => show win0_2.index t 0 * 33 + 1 * k.val = k.val; rw [h0]; omega
  | ⟨1, _⟩ => show win0_2.index t 1 * 1024 + 1 * x.val = x.val; rw [h1]; omega

theorem block3 (c : Dev nD) (t : Fin cfg0.N) (k : Fin 1024) :
    (iblk m c 3 t : Vec Ideal S1024x1 .f32) (ix2 k (0 : Fin 1)) = ∑ x, E m c (ix2 k x) * E m c (ix2 k x) := by
  have hj : (iblk m c 3 t : Vec Ideal S1024x1 .f32) (ix2 k (0 : Fin 1)) = (V m c main_v3 : FVec Ideal S1024x1 .f32) (ix2 k (0 : Fin 1)) := by
    unfold iblk
    rw [View.read_apply]
    show V m c main_v3 _ = V m c main_v3 _
    congr 1
    funext a
    apply Fin.ext
    obtain ⟨h0, h1⟩ := index3 t
    match a with
    | ⟨0, _⟩ => show win0_3.index t 0 * 1024 + 1 * k.val = k.val; rw [h0]; omega
    | ⟨1, _⟩ => show win0_3.index t 1 * 1 + 1 * 0 = 0; rw [h1]
  rw [hj, V_v3]
  pointwise

/-- The transpose. -/
theorem block2_row (c : Dev nD) (t : Fin cfg0.N) (x : Fin 32) (k : Fin 1024) :
    (iblk m c 2 t : Vec Ideal S33x1024 .f32) (ix2 (⟨x.val, by omega⟩ : Fin 33) k) = E m c (ix2 k x) := by
  rw [block2, V_v6]
  pointwise

/-- The row of ones. -/
theorem block2_ones (c : Dev nD) (t : Fin cfg0.N) (k : Fin 1024) :
    (iblk m c 2 t : Vec Ideal S33x1024 .f32) (ix2 (32 : Fin 33) k) = (1 : EReal) := by
  rw [block2, V_v6]
  pointwise

/-! ## What a point computes -/

theorem block1_eq (c : Dev nD) (t : Fin cfg0.N) : (iblk m c 1 t : Vec Ideal S1024x32 .f32) = E m c := by
  funext j
  obtain ⟨k, x, rfl⟩ : ∃ (k : Fin 1024) (x : Fin 32), j = ix2 k x := ⟨j 0, j 1, eq_ix2 j⟩
  exact block1 m c t k x

theorem half0_at (c : Dev nD) (t : Fin cfg0.N) (x : Fin 32) (p : Fin 1024) :
    half0 (iblk m c 0 t : Vec Ideal S2x32x1024 .f32) (ix3 (0 : Fin 1) x p) = vec (X m c) (batch t 0) p x := by
  rw [← block0]
  show (iblk m c 0 t : Vec Ideal S2x32x1024 .f32) _ = _
  congr 1
  funext a
  apply Fin.ext
  match a with
  | ⟨0, _⟩ => rfl
  | ⟨1, _⟩ => show 0 + 1 * x.val = x.val; omega
  | ⟨2, _⟩ => show 0 + 1 * p.val = p.val; omega

theorem half1_at (c : Dev nD) (t : Fin cfg0.N) (x : Fin 32) (p : Fin 1024) :
    half1 (iblk m c 0 t : Vec Ideal S2x32x1024 .f32) (ix3 (0 : Fin 1) x p) = vec (X m c) (batch t 1) p x := by
  rw [← block0]
  show (iblk m c 0 t : Vec Ideal S2x32x1024 .f32) _ = _
  congr 1
  funext a
  apply Fin.ext
  match a with
  | ⟨0, _⟩ => rfl
  | ⟨1, _⟩ => show 0 + 1 * x.val = x.val; omega
  | ⟨2, _⟩ => show 0 + 1 * p.val = p.val; omega

/-- The rows chosen for a batch read at one of its positions. -/
theorem rows_at (c : Dev nD) (t : Fin cfg0.N) (lat : Vec Ideal S1x32x1024 .f32) (b : Fin 32)
    (h : ∀ x p, lat (ix3 (0 : Fin 1) x p) = vec (X m c) b p x) (x : Fin 32) (p : Fin 1024) :
    rows (iblk m c 1 t : Vec Ideal S1024x32 .f32) (iblk m c 2 t) (iblk m c 3 t) lat (ix2 x p) = E m c (ix2 (row (X m c) (E m c) b p) x) := by
  rw [block1_eq, Rows.rows_eq (E m c) (iblk m c 2 t) (iblk m c 3 t) lat (block3 m c t) (block2_row m c t) (block2_ones m c t)]
  unfold row
  rw [show Rows.at_ lat p = vec (X m c) b p from funext fun y => h y p]

/-- The result block of a point, by its three coordinates. -/
abbrev placed (c : Dev nD) (t : Fin cfg0.N) (y : S2x32x1024.Idx) : EReal :=
  E m c (ix2 (row (X m c) (E m c) (batch t ⟨(y 0).val, (y 0).isLt⟩) ⟨(y 2).val, (y 2).isLt⟩) ⟨(y 1).val, (y 1).isLt⟩)

theorem pay5_at (q : FVec Ideal S32x1024 .f32) (x : Fin 32) (p : Fin 1024) : k0_pay5 q (ix3 (0 : Fin 1) x p) = q (ix2 x p) := by
  pointwise [k0_pay5]

theorem pay19_at (q : FVec Ideal S32x1024 .f32) (x : Fin 32) (p : Fin 1024) : k0_pay19 q (ix3 (0 : Fin 1) x p) = q (ix2 x p) := by
  pointwise [k0_pay19]

/-- Two batches' rows stored one after the other, by the block's coordinates. -/
abbrev joined (q0 q1 : FVec Ideal S32x1024 .f32) (y : S2x32x1024.Idx) : EReal :=
  (if (y 0).val = 0 then q0 else q1) (ix2 (⟨(y 1).val, (y 1).isLt⟩ : Fin 32) (⟨(y 2).val, (y 2).isLt⟩ : Fin 1024))

theorem joined_at (q0 q1 : FVec Ideal S32x1024 .f32) (y : S2x32x1024.Idx) :
    View.canon (Val := Elt Ideal) (pieces q0 q1) y = joined q0 q1 y := by
  refine View.canon_apply_of_pieces (Val := Elt Ideal) (e := .f32) (joined q0 q1) _ (fun pc hpc z => ?_) y (pieces_cover q0 q1 y)
  rcases List.mem_cons.mp hpc with rfl | hpc
  · obtain ⟨r, x, p, rfl⟩ : ∃ (r : Fin 1) (x : Fin 32) (p : Fin 1024), z = ix3 r x p := ⟨z 0, z 1, z 2, eq_ix3 z⟩
    obtain rfl : r = 0 := Subsingleton.elim _ _
    refine (pay5_at q1 x p).trans ?_
    show q1 (ix2 x p) = q1 _
    refine congrArg q1 (congrArg₂ ix2 (Fin.ext ?_) (Fin.ext ?_))
    · show x.val = 0 + 1 * x.val
      omega
    · show p.val = 0 + 1 * p.val
      omega
  · obtain rfl := List.mem_singleton.mp hpc
    obtain ⟨r, x, p, rfl⟩ : ∃ (r : Fin 1) (x : Fin 32) (p : Fin 1024), z = ix3 r x p := ⟨z 0, z 1, z 2, eq_ix3 z⟩
    obtain rfl : r = 0 := Subsingleton.elim _ _
    refine (pay19_at q0 x p).trans ?_
    show q0 (ix2 x p) = q0 _
    refine congrArg q0 (congrArg₂ ix2 (Fin.ext ?_) (Fin.ext ?_))
    · show x.val = 0 + 1 * x.val
      omega
    · show p.val = 0 + 1 * p.val
      omega

theorem joined_eq (q0 q1 : FVec Ideal S32x1024 .f32) (G : S2x32x1024.Idx → EReal)
    (h0 : ∀ x p, q0 (ix2 x p) = G (ix3 (0 : Fin 2) x p)) (h1 : ∀ x p, q1 (ix2 x p) = G (ix3 (1 : Fin 2) x p))
    (y : S2x32x1024.Idx) : View.canon (Val := Elt Ideal) (pieces q0 q1) y = G y := by
  rw [joined_at]
  obtain ⟨r, x, p, rfl⟩ : ∃ (r : Fin 2) (x : Fin 32) (p : Fin 1024), y = ix3 r x p := ⟨y 0, y 1, y 2, eq_ix3 y⟩
  obtain rfl | rfl : r = 0 ∨ r = 1 := by omega
  · exact h0 x p
  · exact h1 x p

/-- The result block of a point at an index. -/
theorem blockAt_at (c : Dev nD) (t : Fin cfg0.N) (y : S2x32x1024.Idx) : blockAt m c t y = placed m c t y := by
  unfold blockAt block
  refine joined_eq _ _ (placed m c t) (fun x p => ?_) (fun x p => ?_) y
  · rw [rows_at m c t _ (batch t 0) (half0_at m c t) x p]; rfl
  · rw [rows_at m c t _ (batch t 1) (half1_at m c t) x p]; rfl

/-- One batch's share of the loss. -/
def share (c : Dev nD) (b : Fin 32) : EReal := ∑ x : Fin 32, ∑ p : Fin 1024, diff (X m c) (E m c) b x p

/-- A point adds its two batches' shares. -/
theorem loss_step (c : Dev nD) (t : Fin cfg0.N) (acc : Vec Ideal S1x1 .f32) :
    Body.loss (iblk m c 0 t) (iblk m c 1 t) (iblk m c 2 t) (iblk m c 3 t) acc (ix2 (0 : Fin 1) (0 : Fin 1))
      = acc (ix2 (0 : Fin 1) (0 : Fin 1)) + (share m c (batch t 0) + share m c (batch t 1)) := by
  unfold Body.loss
  pointwise [k0_pay7, k0_pay18, k0_pay10, k0_pay20]
  simp only [rows_at m c t _ (batch t 0) (half0_at m c t), rows_at m c t _ (batch t 1) (half1_at m c t), half0_at, half1_at]
  rfl

/-- The loss cell after point `n`: the shares of the batches so far. -/
theorem lossAt_at (c : Dev nD) (n : ℕ) (h : n < cfg0.N) :
    lossAt m c n h (ix2 (0 : Fin 1) (0 : Fin 1))
      = ∑ t : Fin (n + 1), (share m c (batch ⟨t.val, lt_of_lt_of_le t.isLt h⟩ 0) + share m c (batch ⟨t.val, lt_of_lt_of_le t.isLt h⟩ 1)) := by
  induction n with
  | zero =>
    rw [lossAt, loss_step, Fin.sum_univ_one]
    have h0 : (k0_pay6 : FVec Ideal S1x1 .f32) (ix2 (0 : Fin 1) (0 : Fin 1)) = (0 : EReal) := by
      pointwise [k0_pay6]
    rw [h0, zero_add]
    rfl
  | succ n ih =>
    rw [lossAt, loss_step, ih, Fin.sum_univ_castSucc (n := n + 1)]
    rfl

/-- All points together: the sum of the squared differences. -/
theorem sum_points (c : Dev nD) (h : 15 < cfg0.N) :
    lossAt m c 15 h (ix2 (0 : Fin 1) (0 : Fin 1)) = sse (X m c) (E m c) := by
  rw [lossAt_at]
  show _ = ∑ b : Fin 32, share m c b
  rw [← Fintype.sum_equiv (finProdFinEquiv (m := 16) (n := 2)) _ (fun b : Fin 32 => share m c b) fun _ => rfl, Fintype.sum_prod_type]
  refine Finset.sum_congr rfl fun t _ => ?_
  rw [Fin.sum_univ_two]
  refine congrArg₂ (fun a b => share m c a + share m c b) (Fin.ext ?_) (Fin.ext ?_)
  · show 2 * t.val + 0 = 0 + 2 * t.val
    omega
  · show 2 * t.val + 1 = 1 + 2 * t.val
    omega

/-! ## The arrays after the last point -/

/-- The first result's array: the chosen row's channels at each batch and position. -/
def rowsArray (c : Dev nD) : FVec Ideal S32x32x1024 .f32 := fun j =>
  E m c (ix2 (row (X m c) (E m c) ⟨(j 0).val, (j 0).isLt⟩ ⟨(j 2).val, (j 2).isLt⟩) ⟨(j 1).val, (j 1).isLt⟩)

/-- The loss cell's array. -/
def lossArray (c : Dev nD) : FVec Ideal S1x1 .f32 := fun _ => sse (X m c) (E m c)

theorem flushed_rows (c : Dev nD) (t : Fin cfg0.N) (hf : (cfg0.win 4).flush t = true) :
    (dats m 0 c).flushed 4 t = ((cfg0.win 4).blk t).view.read (Elt Ideal) (rowsArray m c : Buf (Elt Ideal) ((c : Thread nD τ).loc main_v7_0)) := by
  show (cfg0.win 4).cut (grid0.coords t) ((dats m 0 c).after 4 t) = _
  rw [after_4]
  funext y
  refine (blockAt_at m c t y).trans ?_
  rw [View.read_apply]
  unfold rowsArray
  obtain ⟨h0, h1, h2⟩ := index4 t
  refine congrArg₂ (fun a b => E m c (ix2 a b)) (congrArg₂ (row (X m c) (E m c)) (Fin.ext ?_) (Fin.ext ?_)) (Fin.ext ?_)
  · show 2 * t.val + (y 0).val = win0_4.index t 0 * 2 + 1 * (y 0).val
    rw [h0]; omega
  · show (y 2).val = win0_4.index t 2 * 1024 + 1 * (y 2).val
    rw [h2]; omega
  · show (y 1).val = win0_4.index t 1 * 32 + 1 * (y 1).val
    rw [h1]; omega

theorem final_rows (c : Dev nD) : (dats m 0 c).arrAt 4 cfg0.N = (rowsArray m c : Buf (Elt Ideal) ((c : Thread nD τ).loc main_v7_0)) :=
  (dats m 0 c).arrAt_eq_of_cover 4 _ (flushed_rows m c) fun i => by
    have h0 : (i 0 : Nat) < 32 := (i 0).isLt
    have h1 : (i 1 : Nat) < 32 := (i 1).isLt
    have h2 : (i 2 : Nat) < 1024 := (i 2).isLt
    have hN : cfg0.N = 16 := N_0
    obtain ⟨t, ht⟩ : ∃ t : Fin cfg0.N, t.val = (i 0).val / 2 := ⟨⟨(i 0).val / 2, by omega⟩, rfl⟩
    refine ⟨t, flush0_4 t, ?_⟩
    change (i : main_v7_0.ty.shape.Idx) ∈ ((View.whole main_v7_0).slice (win0_4.rect t)).set
    rw [View.set_slice_whole, Rect.mem_set_unit]
    obtain ⟨e0, e1, e2⟩ := index4 t
    intro a
    match a with
    | ⟨0, _⟩ =>
      show win0_4.index t 0 * 2 ≤ (i 0).val ∧ (i 0).val < win0_4.index t 0 * 2 + 2
      rw [e0]; omega
    | ⟨1, _⟩ =>
      show win0_4.index t 1 * 32 ≤ (i 1).val ∧ (i 1).val < win0_4.index t 1 * 32 + 32
      rw [e1]; omega
    | ⟨2, _⟩ =>
      show win0_4.index t 2 * 1024 ≤ (i 2).val ∧ (i 2).val < win0_4.index t 2 * 1024 + 1024
      rw [e2]; omega

theorem flushed_loss (c : Dev nD) (t : Fin cfg0.N) (hf : (cfg0.win 5).flush t = true) :
    (dats m 0 c).flushed 5 t = ((cfg0.win 5).blk t).view.read (Elt Ideal) (lossArray m c : Buf (Elt Ideal) ((c : Thread nD τ).loc main_v7_1)) := by
  have h15 : t.val = 15 := by have := (flush0_5 t).mp hf; have := point_lt t; omega
  show (cfg0.win 5).cut (grid0.coords t) ((dats m 0 c).after 5 t) = _
  rw [after_5]
  funext y
  rw [View.read_apply]
  obtain ⟨t, ht⟩ := t
  dsimp only at h15
  subst h15
  have hy : y = ix2 (0 : Fin 1) (0 : Fin 1) := by
    rw [eq_ix2 y]
    exact congrArg₂ ix2 (Subsingleton.elim _ _) (Subsingleton.elim _ _)
  rw [hy]
  exact sum_points m c ht

theorem final_loss (c : Dev nD) : (dats m 0 c).arrAt 5 cfg0.N = (lossArray m c : Buf (Elt Ideal) ((c : Thread nD τ).loc main_v7_1)) :=
  (dats m 0 c).arrAt_eq_of_cover 5 _ (flushed_loss m c) fun i => by
    have h0 : (i 0 : Nat) < 1 := (i 0).isLt
    have h1 : (i 1 : Nat) < 1 := (i 1).isLt
    have hN : cfg0.N = 16 := N_0
    obtain ⟨t, ht⟩ : ∃ t : Fin cfg0.N, t.val = 15 := ⟨⟨15, by omega⟩, rfl⟩
    refine ⟨t, (flush0_5 t).mpr (by omega), ?_⟩
    change (i : main_v7_1.ty.shape.Idx) ∈ ((View.whole main_v7_1).slice (win0_5.rect t)).set
    rw [View.set_slice_whole, Rect.mem_set_unit]
    obtain ⟨e0, e1⟩ := index5 t
    intro a
    match a with
    | ⟨0, _⟩ =>
      show win0_5.index t 0 * 1 ≤ (i 0).val ∧ (i 0).val < win0_5.index t 0 * 1 + 1
      rw [e0]; omega
    | ⟨1, _⟩ =>
      show win0_5.index t 1 * 1 ≤ (i 1).val ∧ (i 1).val < win0_5.index t 1 * 1 + 1
      rw [e1]; omega

end Cert.KernelIdeal.Blocks

end
-- ==== Proof.KernelValue.lean ====
module

public import proofs.«01_k».proof.Proof.KernelBlocks

/-!
  The kernel's two results on the extended reals: the array of chosen rows, unfolded to the image's shape, and
  the loss cell times one and a quarter over the number of entries.
-/

@[expose] public section

set_option maxRecDepth 16384

noncomputable section

namespace Cert.KernelIdeal.Value

open Idealize.ShloMosaic Idealize.ShloMosaic.TcCoe Idealize.ShloMosaic.StableHlo Idealize.SL.Sem
open Idealize.ShloMosaic.Pipeline (Dat)
open Cert.KernelIdeal.Gen Cert.KernelIdeal.Body Cert.KernelIdeal.Run Cert.KernelIdeal.Blocks

variable (m : (ℓ : Loc nD τ sig) → Buf (Elt Ideal) ℓ) (ρ : Dev nD → PrngReg)

/-! ## The operations after the region -/

theorem windows_apart : Function.Injective (Pipeline.arrRef spec0) := by decide

/-- What the operations after the region read: the region's arrays as it leaves them. -/
abbrev left (c : Dev nD) : Valuation τ sig (Elt Ideal) :=
  Pipeline.withArrays spec0 c (V0 m c) fun w => (dats m 0 c).arrAt w cfg0.N

theorem left_rows (c : Dev nD) : (left m c (Proc.devRef .tc main_v7_0) : FVec Ideal S32x32x1024 .f32) = rowsArray m c :=
  (Pipeline.withArrays_arr spec0 windows_apart c (V0 m c) (fun w => (dats m 0 c).arrAt w cfg0.N) 4).trans (final_rows m c)

theorem left_loss (c : Dev nD) : (left m c (Proc.devRef .tc main_v7_1) : FVec Ideal S1x1 .f32) = lossArray m c :=
  (Pipeline.withArrays_arr spec0 windows_apart c (V0 m c) (fun w => (dats m 0 c).arrAt w cfg0.N) 5).trans (final_loss m c)

theorem tail_rows (c : Dev nD) : (Pipeline.afterTail₀ cfgs (dats m) 0 (V0 m) [hostOps1] c main_v11 : FVec Ideal S32x32x32x32 .f32)
    = shapeCast S32x32x32x32 (rowsArray m c) shapeCasts_S32x32x1024_S32x32x32x32 := by
  rw [← left_rows]
  show StableHlo.after (List.flatten [hostOps1]) (left m c) (Proc.devRef .tc main_v11) = _
  generalize left m c = W
  simp only [hostOps1, List.flatten_cons, List.flatten_nil, List.append_nil]
  after_results
  rfl

theorem tail_loss (c : Dev nD) : (Pipeline.afterTail₀ cfgs (dats m) 0 (V0 m) [hostOps1] c main_v10 : FVec Ideal S_ .f32)
    = Host.divf (mulf (constant S_ .f32 0x3FA00000#32) (shapeCast S_ (lossArray m c) shapeCasts_S1x1_S_)) (constant S_ .f32 0x49800000#32) := by
  rw [← left_loss]
  show StableHlo.after (List.flatten [hostOps1]) (left m c) (Proc.devRef .tc main_v10) = _
  generalize left m c = W
  simp only [hostOps1, List.flatten_cons, List.flatten_nil, List.append_nil]
  after_results
  rfl

/-! ## Their values -/

/-- The rows' array in the image's shape. -/
theorem out_at (c : Dev nD) : shapeCast S32x32x32x32 (rowsArray m c) shapeCasts_S32x32x1024_S32x32x32x32 = Target.out (X m c) (E m c) := by
  funext j
  obtain ⟨b, x, h, w, rfl⟩ : ∃ (b x h w : Fin 32), j = ix4 b x h w := ⟨j 0, j 1, j 2, j 3, eq_ix4 j⟩
  pointwise
  rfl

theorem five_quarters : Ideal.ofBits .f32 0x3FA00000#32 = ((1.25 : ℝ) : EReal) := by
  simp [Ideal.ofBits, Ideal.ieee, -EReal.coe_mul]
  norm_num

/-- One and a quarter times a sum, over the number of entries. -/
theorem scaled (s : EReal) (hs : 0 ≤ s) :
    Ideal.div (((1.25 : ℝ) : EReal) * s) ((1048576 : ℝ) : EReal) = s * ((1.25 / 1048576 : ℝ) : EReal) := by
  rw [Ideal.div_coe (by norm_num)]
  induction s with
  | bot => exact absurd hs (by simp)
  | top =>
    rw [EReal.coe_mul_top_of_pos (by norm_num), EReal.top_mul_coe_of_pos (by norm_num), EReal.top_mul_coe_of_pos (by norm_num)]
  | coe r => norm_cast; ring

/-- The loss cell scaled. -/
theorem loss_at (c : Dev nD) :
    Host.divf (mulf (constant S_ .f32 0x3FA00000#32) (shapeCast S_ (lossArray m c) shapeCasts_S1x1_S_)) (constant S_ .f32 0x49800000#32)
      = (fun _ => Target.loss (X m c) (E m c) : FVec Ideal S_ .f32) := by
  funext j
  have := scaled (Target.sse (X m c) (E m c)) (Target.sse_nonneg _ _)
  rw [← five_quarters, ← Cert.ReferenceIdeal.Value.million] at this
  exact this

/-- The kernel's run: both results, and the arguments as they began. -/
theorem run : θ_run defs (onTc (τ := τ) (main (F := Ideal))) ⟨m, fun _ => 0, ρ⟩ (fun r => ∀ c : Dev nD,
      r.2.mem ((c.tc : Thread nD τ).loc main_v11) = (Target.out (X m c) (E m c) : FVec Ideal S32x32x32x32 .f32)
      ∧ r.2.mem ((c.tc : Thread nD τ).loc main_v10) = (fun _ => Target.loss (X m c) (E m c) : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have hv : θ_run defs (onTc (τ := τ) (main (F := Ideal))) ⟨m, fun _ => 0, ρ⟩ (fun r => ∀ c : Dev nD,
      r.2.mem ((c.tc : Thread nD τ).loc main_v11) = (Target.out (X m c) (E m c) : FVec Ideal S32x32x32x32 .f32)
      ∧ r.2.mem ((c.tc : Thread nD τ).loc main_v10) = (fun _ => Target.loss (X m c) (E m c) : FVec Ideal S_ .f32)) :=
    (θ_run defs _ _).mono (fun _ h c =>
      ⟨((h c).2 main_v11 (Pipeline.mem_restRefs_of main_v11 (by decide) (by decide))).trans ((tail_rows m c).trans (out_at m c)),
       ((h c).2 main_v10 (Pipeline.mem_restRefs_of main_v10 (by decide) (by decide))).trans ((tail_loss m c).trans (loss_at m c))⟩) (run_main m ρ)
  exact (θ_run defs _ _).mono (fun _ h c => ⟨(h.1 c).1, (h.1 c).2, (h.2.1 c).1, (h.2.1 c).2⟩) (θ_run_and hv (quiet m ρ))

end Cert.KernelIdeal.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.RefRun
public import proofs.«01_k».proof.Proof.RefValue
public import proofs.«01_k».proof.Proof.KernelValue

@[expose] public section

noncomputable section

namespace Cert.Proof

open Idealize.ShloMosaic Idealize.SL.Sem

/-- The kernel and its ideal reading are one text: their body tables run the same functions. -/
theorem rows_eq : Cert.Kernel.defs₀ (F := Bits) = Cert.KernelIdeal.defs₀ (F := Bits) := by
  unfold Cert.Kernel.defs₀ Cert.KernelIdeal.defs₀
  refine congrArg Defs.onTc (funext fun ℓ => funext fun a => ?_)
  fin_cases ℓ
  rfl

theorem table_eq : Cert.Kernel.defs (F := Bits) = Cert.KernelIdeal.defs (F := Bits) := by
  unfold Cert.Kernel.defs Cert.KernelIdeal.defs
  rw [rows_eq]
  rfl

/-- So the one run serves the kernel at the machine's floats. -/
theorem frame_kernel : Cert.quiescent_Kernel := fun m ρ _ => by
  rw [table_eq]
  exact Cert.KernelIdeal.Run.quiet (F := Bits) m ρ

theorem frame_ideal : Cert.quiescent_KernelIdeal := fun m ρ _ => Cert.KernelIdeal.Run.quiet m ρ

theorem frame_reference : Cert.quiescent_ReferenceIdeal := fun m ρ _ =>
  (θ_run Cert.ReferenceIdeal.defs _ _).mono (fun _ h => ⟨fun c => (h.1 c).2.2, h.2⟩) (Cert.ReferenceIdeal.Line.run m ρ)

/-- The precondition's shape fact. -/
theorem latents_facts : Cert.Pre_latents_finite.Facts := ⟨by decide⟩

/-- A number whose absolute value is below the top is neither end of the line. -/
theorem inner_of_abs {x : EReal} (h : max x (-x) < ⊤) : x ≠ ⊤ ∧ x ≠ ⊥ := by
  refine ⟨fun e => ?_, fun e => ?_⟩
  · subst e; simp at h
  · subst e; simp at h

/-- The precondition, read at an entry of the latents. -/
theorem latents_inner [Cert.Pre_latents_finite.Facts] (x : FVec Ideal Cert.Pre_latents_finite.S32x32x32x32 .f32)
    (e : FVec Ideal Cert.Pre_latents_finite.S1024x32 .f32) (h : Cert.Pre_latents_finite.fn (F := Ideal) x e = fun _ => 1#1)
    (j : Cert.Pre_latents_finite.S32x32x32x32.Idx) : x j ≠ ⊤ ∧ x j ≠ ⊥ := by
  have hj : Ideal.cmp .olt (max (x j) (-(x j)) : EReal) (Ideal.ofBits .f32 0x7F800000#32) = 1#1 := congrFun h j
  rw [Cert.Least.top_f32] at hj
  refine inner_of_abs ?_
  by_contra hn
  simp [Ideal.cmp, hn] at hj

section

variable [hPre : Cert.Pre_latents_finite.Facts]

theorem frame_ideal_finite : Cert.quiescent_KernelIdeal_pre_latents_finite := fun m ρ _ => Cert.KernelIdeal.Run.quiet m ρ

theorem frame_reference_finite : Cert.quiescent_ReferenceIdeal_pre_latents_finite := fun m ρ _ =>
  (θ_run Cert.ReferenceIdeal.defs _ _).mono (fun _ h => ⟨fun c => (h.1 c).2.2, h.2⟩) (Cert.ReferenceIdeal.Line.run m ρ)

/-- On the extended reals and finite latents, kernel and reference leave the same two results. -/
theorem same_results : Cert.algebraic_KernelIdeal_ReferenceIdeal_pre_latents_finite := by
  intro m g m' g' hpre hargs
  refine ⟨fun c => Cert.Target.out (Cert.KernelIdeal.Blocks.X m c) (Cert.KernelIdeal.Blocks.E m c),
    fun c => fun _ => Cert.Target.loss (Cert.KernelIdeal.Blocks.X m c) (Cert.KernelIdeal.Blocks.E m c),
    Cert.KernelIdeal.Value.run m g, ?_⟩
  refine (θ_run Cert.ReferenceIdeal.defs _ _).mono (fun _ h c => ?_) (Cert.ReferenceIdeal.Line.run m' g')
  obtain ⟨h31, h28, h0, h1⟩ := h.1 c
  refine ⟨h31.trans ?_, h28.trans ?_, h0, h1⟩
  · rw [(hargs c).1, (hargs c).2]
    exact Cert.ReferenceIdeal.Value.out_at _ _ (latents_inner _ _ (hpre c))
  · rw [(hargs c).1, (hargs c).2]
    exact Cert.ReferenceIdeal.Value.loss_at _ _

end

theorem claim : Cert.Claim :=
  ⟨Cert.Kernel.Gen.facts, Cert.KernelIdeal.Gen.facts, Cert.ReferenceIdeal.Gen.facts, latents_facts,
    frame_kernel, frame_ideal, @frame_ideal_finite latents_facts, frame_reference, @frame_reference_finite latents_facts, trivial, @same_results latents_facts⟩

end Cert.Proof

end
